-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S2x28x64x2x1024 Cert.KernelIdeal.S2x28x64x1x1024
  ∧ IdealRules.bf16_pair.BufferStatement Cert.KernelIdeal.S8x2x128 Cert.KernelIdeal.S8x1x128
  ∧ IdealRules.bf16_pair.BufferStatement Cert.KernelIdeal.S8x8x64x2x128 Cert.KernelIdeal.S8x8x64x1x128
  ∧ IdealRules.bf16_pair.BufferStatement Cert.KernelIdeal.S8x64x2x128 Cert.KernelIdeal.S8x64x1x128
  ∧ IdealRules.bf16_pair.Statement Cert.KernelIdeal.S8x2x128 Cert.KernelIdeal.S8x1x128
  ∧ IdealRules.bf16_pair.SelectZeroStatement Cert.KernelIdeal.S8x128
  ∧ IdealRules.bf16_pair.Statement Cert.KernelIdeal.S16x128 Cert.KernelIdeal.S8x128
  ∧ IdealRules.bf16_pair.Statement Cert.KernelIdeal.S1x1x8x2x128 Cert.KernelIdeal.S1x1x8x1x128
  ∧ IdealRules.bf16_pair.Statement Cert.KernelIdeal.S1x1x64x2x128 Cert.KernelIdeal.S1x1x64x1x128
  ∧ IdealRules.bf16_pair.Statement Cert.KernelIdeal.S128x128 Cert.KernelIdeal.S64x128
  ∧ IdealRules.named_const.Statement Cert.KernelIdeal.κ "sixth" .f32 0x3E2AAAAB#32 ((1 / 6 : ℝ) : EReal)
  ∧ IdealRules.truncf_extf.Statement Cert.KernelIdeal.S64x128 .f32 .fp8e4m3
  ∧ IdealRules.bf16_pair.PackStatement Cert.KernelIdeal.S64x128
  ∧ IdealRules.bf16_pair.Statement Cert.KernelIdeal.S1x64x2x128 Cert.KernelIdeal.S1x64x1x128
  ∧ IdealRules.bf16_pair.Statement Cert.KernelIdeal.S1x1x2x128 Cert.KernelIdeal.S1x1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x28672 : Shape := ⟨3, ![2, 1024, 28672]⟩
abbrev S2x1024x896 : Shape := ⟨3, ![2, 1024, 896]⟩
abbrev S2x28672x512 : Shape := ⟨3, ![2, 28672, 512]⟩
abbrev S2x28672x64 : Shape := ⟨3, ![2, 28672, 64]⟩
abbrev S8x128 : Shape := ⟨2, ![8, 128]⟩
abbrev S1x1024x1024 : Shape := ⟨3, ![1, 1024, 1024]⟩
abbrev S1x1024x896 : Shape := ⟨3, ![1, 1024, 896]⟩
abbrev S1x1024x512 : Shape := ⟨3, ![1, 1024, 512]⟩
abbrev S1x1024x64 : Shape := ⟨3, ![1, 1024, 64]⟩
abbrev S2x512x896 : Shape := ⟨3, ![2, 512, 896]⟩
abbrev S2x28x64x1024 : Shape := ⟨4, ![2, 28, 64, 1024]⟩
abbrev S8x8x64x128 : Shape := ⟨4, ![8, 8, 64, 128]⟩
abbrev S8x64x128 : Shape := ⟨3, ![8, 64, 128]⟩
abbrev S1x32x896 : Shape := ⟨3, ![1, 32, 896]⟩
abbrev S32x896 : Shape := ⟨2, ![32, 896]⟩
abbrev S16x896 : Shape := ⟨2, ![16, 896]⟩
abbrev S1x16x896 : Shape := ⟨3, ![1, 16, 896]⟩
abbrev S16x128 : Shape := ⟨2, ![16, 128]⟩
abbrev S1x32x128 : Shape := ⟨3, ![1, 32, 128]⟩
abbrev S32x128 : Shape := ⟨2, ![32, 128]⟩
abbrev S1x8x128 : Shape := ⟨3, ![1, 8, 128]⟩
abbrev S8x128x1 : Shape := ⟨3, ![8, 128, 1]⟩
abbrev S1x1x8x128 : Shape := ⟨4, ![1, 1, 8, 128]⟩
abbrev S1 : Shape := ⟨1, ![1]⟩
abbrev S1x1x1 : Shape := ⟨3, ![1, 1, 1]⟩
abbrev S1x1x64x128 : Shape := ⟨4, ![1, 1, 64, 128]⟩
abbrev S64x128 : Shape := ⟨2, ![64, 128]⟩
abbrev S128x64 : Shape := ⟨2, ![128, 64]⟩
abbrev S1x128x64 : Shape := ⟨3, ![1, 128, 64]⟩
abbrev S1x64x128 : Shape := ⟨3, ![1, 64, 128]⟩
abbrev S1x1x128 : Shape := ⟨3, ![1, 1, 128]⟩
abbrev S1x128 : Shape := ⟨2, ![1, 128]⟩
abbrev S2x128 : Shape := ⟨2, ![2, 128]⟩
abbrev S8x8x128 : Shape := ⟨3, ![8, 8, 128]⟩
abbrev S128x128 : Shape := ⟨2, ![128, 128]⟩
abbrev S1x128x128 : Shape := ⟨3, ![1, 128, 128]⟩

abbrev nBuf : Space → Nat
  | .hbm => 5
  | .vmem => 14
  | .smem => 0
  | _ => 0

abbrev bufTy : (tb : Table) → Fin (tcTables nBuf tb) → BufTy
  | .hbm, ⟨0, _⟩ => ⟨S2x1024x28672, .fp8e4m3⟩
  | .hbm, ⟨1, _⟩ => ⟨S2x1024x896, .i8⟩
  | .hbm, ⟨2, _⟩ => ⟨S2x28672x512, .i8⟩
  | .hbm, ⟨3, _⟩ => ⟨S2x28672x64, .fp8e4m3⟩
  | .hbm, ⟨4, _⟩ => ⟨S8x128, .f32⟩
  | .local _ .vmem, ⟨0, _⟩ => ⟨S1x1024x1024, .fp8e4m3⟩
  | .local _ .vmem, ⟨1, _⟩ => ⟨S1x1024x1024, .fp8e4m3⟩
  | .local _ .vmem, ⟨2, _⟩ => ⟨S1x1024x896, .i8⟩
  | .local _ .vmem, ⟨3, _⟩ => ⟨S1x1024x896, .i8⟩
  | .local _ .vmem, ⟨4, _⟩ => ⟨S1x1024x512, .i8⟩
  | .local _ .vmem, ⟨5, _⟩ => ⟨S1x1024x512, .i8⟩
  | .local _ .vmem, ⟨6, _⟩ => ⟨S1x1024x64, .fp8e4m3⟩
  | .local _ .vmem, ⟨7, _⟩ => ⟨S1x1024x64, .fp8e4m3⟩
  | .local _ .vmem, ⟨8, _⟩ => ⟨S8x128, .f32⟩
  | .local _ .vmem, ⟨9, _⟩ => ⟨S2x512x896, .i32⟩
  | .local _ .vmem, ⟨10, _⟩ => ⟨S2x28x64x1024, .i32⟩
  | .local _ .vmem, ⟨11, _⟩ => ⟨S8x128, .i32⟩
  | .local _ .vmem, ⟨12, _⟩ => ⟨S8x8x64x128, .i32⟩
  | .local _ .vmem, ⟨13, _⟩ => ⟨S8x64x128, .i32⟩
  | _, _ => ⟨S2x1024x28672, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨3, ![2, 2, 28], ![false, false, false]⟩

def k0_cond1 (i : grid0.Coords) : BitVec 1 :=
  let arg0 : BitVec 32 := BitVec.ofNat 32 (i 0).val
  let c0_i32_4 : BitVec 32 := 0#32
  let v25 : BitVec 1 := Scalar.cmpi .eq arg0 c0_i32_4
  let arg2 : BitVec 32 := BitVec.ofNat 32 (i 2).val
  let c0_i32_5 : BitVec 32 := 0#32
  let v26 : BitVec 1 := Scalar.cmpi .eq arg2 c0_i32_5
  let v27 : BitVec 1 := Scalar.andi v25 v26
  let v28 : BitVec 32 := Scalar.extui v27
  let c0_i32_6 : BitVec 32 := 0#32
  let v29 : BitVec 1 := Scalar.cmpi .ne v28 c0_i32_6
  v29

@[reducible] def k0_t1_loop : Scf.Loop 32 :=
  let c0_i32_15 : BitVec 32 := 0#32
  let c32_i32_16 : BitVec 32 := 32#32
  let v43 : BitVec 32 := Scalar.addi c0_i32_15 c32_i32_16
  let c1_i32_17 : BitVec 32 := 1#32
  ⟨c0_i32_15, v43, c1_i32_17⟩
def k0_mult1 (k0_t1 : Fin k0_t1_loop.trips) : BitVec 32 :=
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c32_i32_21 : BitVec 32 := 32#32
  let v46 : BitVec 32 := Scalar.muli v45 c32_i32_21
  v46
def k0_off1 (k0_t1 : Fin k0_t1_loop.trips) : Fin 3 → Nat :=
  let c0 : Index := 0#32
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c32_i32_21 : BitVec 32 := 32#32
  let v46 : BitVec 32 := Scalar.muli v45 c32_i32_21
  let v47 : BitVec 32 := v46
  let v48 : Index := Scalar.indexCast v47
  let c0_22 : Index := 0#32
  ![0, v48.toNat, 0]
def k0_mult2 (k0_t1 : Fin k0_t1_loop.trips) : BitVec 32 :=
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c16_i32 : BitVec 32 := 16#32
  let v56 : BitVec 32 := Scalar.muli v45 c16_i32
  v56
def k0_off2 (i : grid0.Coords) (k0_t1 : Fin k0_t1_loop.trips) : Fin 3 → Nat :=
  let arg1 : BitVec 32 := BitVec.ofNat 32 (i 1).val
  let v58 : Index := Scalar.indexCast arg1
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c16_i32 : BitVec 32 := 16#32
  let v56 : BitVec 32 := Scalar.muli v45 c16_i32
  let v57 : BitVec 32 := v56
  let v59 : Index := Scalar.indexCast v57
  let c0_23 : Index := 0#32
  ![v58.toNat, v59.toNat, 0]
def k0_cond3 (i : grid0.Coords) : BitVec 1 :=
  let arg0 : BitVec 32 := BitVec.ofNat 32 (i 0).val
  let c0_i32_11 : BitVec 32 := 0#32
  let v37 : BitVec 1 := Scalar.cmpi .eq arg0 c0_i32_11
  let v38 : BitVec 32 := Scalar.extui v37
  let c0_i32_12 : BitVec 32 := 0#32
  let v39 : BitVec 1 := Scalar.cmpi .ne v38 c0_i32_12
  v39

@[reducible] def k0_t2_loop : Scf.Loop 32 :=
  let c0_i32_16 : BitVec 32 := 0#32
  let c8_i32 : BitVec 32 := 8#32
  let v45 : BitVec 32 := Scalar.addi c0_i32_16 c8_i32
  let c1_i32_17 : BitVec 32 := 1#32
  ⟨c0_i32_16, v45, c1_i32_17⟩
def k0_mult3 (k0_t2 : Fin k0_t2_loop.trips) : BitVec 32 :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let c128_i32 : BitVec 32 := 128#32
  let v53 : BitVec 32 := Scalar.muli v52 c128_i32
  v53
def k0_mult4 (i : grid0.Coords) (k0_t2 : Fin k0_t2_loop.trips) : BitVec 32 :=
  let arg2 : BitVec 32 := BitVec.ofNat 32 (i 2).val
  let c8_i32_23 : BitVec 32 := 8#32
  let v55 : BitVec 32 := Scalar.muli arg2 c8_i32_23
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v56 : BitVec 32 := Scalar.addi v55 v52
  let c0_i32_25 : BitVec 32 := 0#32
  let v58 : BitVec 1 := Scalar.cmpi .sgt v56 c0_i32_25
  let v59 : BitVec 32 := Scalar.extui v58
  let c0_i32_26 : BitVec 32 := 0#32
  let v60 : BitVec 1 := Scalar.cmpi .slt v56 c0_i32_26
  let v61 : BitVec 32 := Scalar.extui v60
  let v62 : BitVec 32 := Scalar.subi v59 v61
  let c32_i32_24 : BitVec 32 := 32#32
  let c0_i32_27 : BitVec 32 := 0#32
  let v63 : BitVec 1 := Scalar.cmpi .sgt c32_i32_24 c0_i32_27
  let v64 : BitVec 32 := Scalar.extui v63
  let c0_i32_28 : BitVec 32 := 0#32
  let v65 : BitVec 1 := Scalar.cmpi .slt c32_i32_24 c0_i32_28
  let v66 : BitVec 32 := Scalar.extui v65
  let v67 : BitVec 32 := Scalar.subi v64 v66
  let v68 : BitVec 1 := Scalar.cmpi .ne v62 v67
  let v69 : BitVec 32 := Scalar.remsi v56 c32_i32_24
  let c0_i32_29 : BitVec 32 := 0#32
  let v70 : BitVec 1 := Scalar.cmpi .ne v69 c0_i32_29
  let v71 : BitVec 1 := Scalar.andi v68 v70
  let v57 : BitVec 32 := Scalar.divsi v56 c32_i32_24
  let c1_i32_30 : BitVec 32 := 1#32
  let v72 : BitVec 32 := Scalar.subi v57 c1_i32_30
  let v73 : BitVec 32 := Scalar.select v71 v72 v57
  let c128_i32_31 : BitVec 32 := 128#32
  let v74 : BitVec 32 := Scalar.muli v73 c128_i32_31
  v74
@[reducible] def k0_t3_loop : Scf.Loop 32 :=
  let c0_i32_38 : BitVec 32 := 0#32
  let c8_i32_39 : BitVec 32 := 8#32
  let v89 : BitVec 32 := Scalar.addi c0_i32_38 c8_i32_39
  let c1_i32_40 : BitVec 32 := 1#32
  ⟨c0_i32_38, v89, c1_i32_40⟩
@[reducible] def k0_t4_loop : Scf.Loop 32 :=
  let c0_i32_44 : BitVec 32 := 0#32
  let c4_i32_45 : BitVec 32 := 4#32
  let v93 : BitVec 32 := Scalar.addi c0_i32_44 c4_i32_45
  let c1_i32_46 : BitVec 32 := 1#32
  ⟨c0_i32_44, v93, c1_i32_46⟩
def k0_mult5 (k0_t3 : Fin k0_t3_loop.trips) (k0_t4 : Fin k0_t4_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c128_i32_61 : BitVec 32 := 128#32
  let v162 : BitVec 32 := Scalar.muli v92 c128_i32_61
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c32_i32_62 : BitVec 32 := 32#32
  let v163 : BitVec 32 := Scalar.muli v161 c32_i32_62
  let v164 : BitVec 32 := Scalar.addi v162 v163
  v164
def k0_off3 (k0_t2 : Fin k0_t2_loop.trips) (k0_t3 : Fin k0_t3_loop.trips) (k0_t4 : Fin k0_t4_loop.trips) : Fin 3 → Nat :=
  let c0_63 : Index := 0#32
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c128_i32_61 : BitVec 32 := 128#32
  let v162 : BitVec 32 := Scalar.muli v92 c128_i32_61
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c32_i32_62 : BitVec 32 := 32#32
  let v163 : BitVec 32 := Scalar.muli v161 c32_i32_62
  let v164 : BitVec 32 := Scalar.addi v162 v163
  let v165 : BitVec 32 := v164
  let v166 : Index := Scalar.indexCast v165
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let c128_i32 : BitVec 32 := 128#32
  let v53 : BitVec 32 := Scalar.muli v52 c128_i32
  let v54 : BitVec 32 := v53
  let v167 : Index := Scalar.indexCast v54
  ![0, v166.toNat, v167.toNat]
def k0_mult6 (k0_t3 : Fin k0_t3_loop.trips) (k0_t4 : Fin k0_t4_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_64 : BitVec 32 := 8#32
  let v172 : BitVec 32 := Scalar.muli v92 c8_i32_64
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c2_i32 : BitVec 32 := 2#32
  let v173 : BitVec 32 := Scalar.muli v161 c2_i32
  let v174 : BitVec 32 := Scalar.addi v172 v173
  let c0_i32_65 : BitVec 32 := 0#32
  let v175 : BitVec 32 := Scalar.addi v174 c0_i32_65
  let c8_i32_66 : BitVec 32 := 8#32
  let v177 : BitVec 32 := Scalar.muli v175 c8_i32_66
  v177
def k0_off4 (i : grid0.Coords) (k0_t2 : Fin k0_t2_loop.trips) (k0_t3 : Fin k0_t3_loop.trips) (k0_t4 : Fin k0_t4_loop.trips) (c0_i32_65 : BitVec 32) : Fin 3 → Nat :=
  let arg1 : BitVec 32 := BitVec.ofNat 32 (i 1).val
  let v179 : Index := Scalar.indexCast arg1
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_64 : BitVec 32 := 8#32
  let v172 : BitVec 32 := Scalar.muli v92 c8_i32_64
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c2_i32 : BitVec 32 := 2#32
  let v173 : BitVec 32 := Scalar.muli v161 c2_i32
  let v174 : BitVec 32 := Scalar.addi v172 v173
  let v175 : BitVec 32 := Scalar.addi v174 c0_i32_65
  let c8_i32_66 : BitVec 32 := 8#32
  let v177 : BitVec 32 := Scalar.muli v175 c8_i32_66
  let v178 : BitVec 32 := v177
  let v180 : Index := Scalar.indexCast v178
  let arg2 : BitVec 32 := BitVec.ofNat 32 (i 2).val
  let c8_i32_23 : BitVec 32 := 8#32
  let v55 : BitVec 32 := Scalar.muli arg2 c8_i32_23
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v56 : BitVec 32 := Scalar.addi v55 v52
  let c0_i32_25 : BitVec 32 := 0#32
  let v58 : BitVec 1 := Scalar.cmpi .sgt v56 c0_i32_25
  let v59 : BitVec 32 := Scalar.extui v58
  let c0_i32_26 : BitVec 32 := 0#32
  let v60 : BitVec 1 := Scalar.cmpi .slt v56 c0_i32_26
  let v61 : BitVec 32 := Scalar.extui v60
  let v62 : BitVec 32 := Scalar.subi v59 v61
  let c32_i32_24 : BitVec 32 := 32#32
  let c0_i32_27 : BitVec 32 := 0#32
  let v63 : BitVec 1 := Scalar.cmpi .sgt c32_i32_24 c0_i32_27
  let v64 : BitVec 32 := Scalar.extui v63
  let c0_i32_28 : BitVec 32 := 0#32
  let v65 : BitVec 1 := Scalar.cmpi .slt c32_i32_24 c0_i32_28
  let v66 : BitVec 32 := Scalar.extui v65
  let v67 : BitVec 32 := Scalar.subi v64 v66
  let v68 : BitVec 1 := Scalar.cmpi .ne v62 v67
  let v69 : BitVec 32 := Scalar.remsi v56 c32_i32_24
  let c0_i32_29 : BitVec 32 := 0#32
  let v70 : BitVec 1 := Scalar.cmpi .ne v69 c0_i32_29
  let v71 : BitVec 1 := Scalar.andi v68 v70
  let v57 : BitVec 32 := Scalar.divsi v56 c32_i32_24
  let c1_i32_30 : BitVec 32 := 1#32
  let v72 : BitVec 32 := Scalar.subi v57 c1_i32_30
  let v73 : BitVec 32 := Scalar.select v71 v72 v57
  let c128_i32_31 : BitVec 32 := 128#32
  let v74 : BitVec 32 := Scalar.muli v73 c128_i32_31
  let v75 : BitVec 32 := v74
  let v181 : Index := Scalar.indexCast v75
  ![v179.toNat, v180.toNat, v181.toNat]
def k0_mult7 (k0_t4 : Fin k0_t4_loop.trips) : BitVec 32 :=
  let c2_i32_69 : BitVec 32 := 2#32
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let v194 : BitVec 32 := Scalar.muli c2_i32_69 v161
  let c0_i32_70 : BitVec 32 := 0#32
  let v195 : BitVec 32 := Scalar.addi v194 c0_i32_70
  let c8_i32_71 : BitVec 32 := 8#32
  let v196 : BitVec 32 := Scalar.muli v195 c8_i32_71
  v196
def k0_off5 (k0_t2 : Fin k0_t2_loop.trips) (k0_t3 : Fin k0_t3_loop.trips) (k0_t4 : Fin k0_t4_loop.trips) (c0_i32_70 : BitVec 32) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v199 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v200 : Index := Scalar.indexCast v92
  let c2_i32_69 : BitVec 32 := 2#32
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let v194 : BitVec 32 := Scalar.muli c2_i32_69 v161
  let v195 : BitVec 32 := Scalar.addi v194 c0_i32_70
  let c8_i32_71 : BitVec 32 := 8#32
  let v196 : BitVec 32 := Scalar.muli v195 c8_i32_71
  let v197 : BitVec 32 := v196
  let v201 : Index := Scalar.indexCast v197
  let c0_72 : Index := 0#32
  ![v199.toNat, v200.toNat, v201.toNat, 0]
def k0_mult8 (k0_t3 : Fin k0_t3_loop.trips) (k0_t4 : Fin k0_t4_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_73 : BitVec 32 := 8#32
  let v205 : BitVec 32 := Scalar.muli v92 c8_i32_73
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c2_i32_74 : BitVec 32 := 2#32
  let v206 : BitVec 32 := Scalar.muli v161 c2_i32_74
  let v207 : BitVec 32 := Scalar.addi v205 v206
  let c1_i32_75 : BitVec 32 := 1#32
  let v208 : BitVec 32 := Scalar.addi v207 c1_i32_75
  let c8_i32_76 : BitVec 32 := 8#32
  let v210 : BitVec 32 := Scalar.muli v208 c8_i32_76
  v210
def k0_mult9 (k0_t4 : Fin k0_t4_loop.trips) : BitVec 32 :=
  let c2_i32_79 : BitVec 32 := 2#32
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let v227 : BitVec 32 := Scalar.muli c2_i32_79 v161
  let c1_i32_80 : BitVec 32 := 1#32
  let v228 : BitVec 32 := Scalar.addi v227 c1_i32_80
  let c8_i32_81 : BitVec 32 := 8#32
  let v229 : BitVec 32 := Scalar.muli v228 c8_i32_81
  v229
def k0_off6 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v94 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v95 : Index := Scalar.indexCast v92
  let c0_48 : Index := 0#32
  let c0_49 : Index := 0#32
  ![v94.toNat, v95.toNat, 0, 0]
def k0_off7 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v99 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v100 : Index := Scalar.indexCast v92
  let c1 : Index := 1#32
  let c0_50 : Index := 0#32
  ![v99.toNat, v100.toNat, 1, 0]
def k0_off8 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v105 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v106 : Index := Scalar.indexCast v92
  let c2 : Index := 2#32
  let c0_51 : Index := 0#32
  ![v105.toNat, v106.toNat, 2, 0]
def k0_off9 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v111 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v112 : Index := Scalar.indexCast v92
  let c3 : Index := 3#32
  let c0_52 : Index := 0#32
  ![v111.toNat, v112.toNat, 3, 0]
def k0_off10 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v117 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v118 : Index := Scalar.indexCast v92
  let c4 : Index := 4#32
  let c0_53 : Index := 0#32
  ![v117.toNat, v118.toNat, 4, 0]
def k0_off11 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v123 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v124 : Index := Scalar.indexCast v92
  let c5 : Index := 5#32
  let c0_54 : Index := 0#32
  ![v123.toNat, v124.toNat, 5, 0]
def k0_off12 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v129 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v130 : Index := Scalar.indexCast v92
  let c6 : Index := 6#32
  let c0_55 : Index := 0#32
  ![v129.toNat, v130.toNat, 6, 0]
def k0_off13 (k0_t2 : Fin k0_t2_loop.trips) (k0_t3 : Fin k0_t3_loop.trips) : Fin 4 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v135 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v136 : Index := Scalar.indexCast v92
  let c7 : Index := 7#32
  let c0_56 : Index := 0#32
  ![v135.toNat, v136.toNat, 7, 0]
def k0_mult10 (k0_t3 : Fin k0_t3_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_58 : BitVec 32 := 8#32
  let v150 : BitVec 32 := Scalar.muli v92 c8_i32_58
  v150
def k0_off14 (i : grid0.Coords) (k0_t2 : Fin k0_t2_loop.trips) (k0_t3 : Fin k0_t3_loop.trips) : Fin 4 → Nat :=
  let arg1 : BitVec 32 := BitVec.ofNat 32 (i 1).val
  let v152 : Index := Scalar.indexCast arg1
  let arg2 : BitVec 32 := BitVec.ofNat 32 (i 2).val
  let v153 : Index := Scalar.indexCast arg2
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_58 : BitVec 32 := 8#32
  let v150 : BitVec 32 := Scalar.muli v92 c8_i32_58
  let v151 : BitVec 32 := v150
  let v154 : Index := Scalar.indexCast v151
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let c128_i32 : BitVec 32 := 128#32
  let v53 : BitVec 32 := Scalar.muli v52 c128_i32
  let v54 : BitVec 32 := v53
  let v155 : Index := Scalar.indexCast v54
  ![v152.toNat, v153.toNat, v154.toNat, v155.toNat]
def k0_cond4 (i : grid0.Coords) : BitVec 1 :=
  let arg0 : BitVec 32 := BitVec.ofNat 32 (i 0).val
  let c1_i32_13 : BitVec 32 := 1#32
  let v40 : BitVec 1 := Scalar.cmpi .eq arg0 c1_i32_13
  let v41 : BitVec 32 := Scalar.extui v40
  let c0_i32_14 : BitVec 32 := 0#32
  let v42 : BitVec 1 := Scalar.cmpi .ne v41 c0_i32_14
  v42

@[reducible] def k0_t5_loop : Scf.Loop 32 :=
  let c1_i32_18 : BitVec 32 := 1#32
  let c255_i32 : BitVec 32 := 255#32
  let v55 : BitVec 32 := Scalar.addi c1_i32_18 c255_i32
  let c1_i32_19 : BitVec 32 := 1#32
  ⟨c1_i32_18, v55, c1_i32_19⟩
@[reducible] def k0_t6_loop : Scf.Loop 32 :=
  let c0_i32_27 : BitVec 32 := 0#32
  let c8_i32 : BitVec 32 := 8#32
  let v74 : BitVec 32 := Scalar.addi c0_i32_27 c8_i32
  let c1_i32_28 : BitVec 32 := 1#32
  ⟨c0_i32_27, v74, c1_i32_28⟩
def k0_mult11 (k0_t6 : Fin k0_t6_loop.trips) : BitVec 32 :=
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  v77
def k0_off15 (i : grid0.Coords) (k0_t6 : Fin k0_t6_loop.trips) : Fin 4 → Nat :=
  let arg1 : BitVec 32 := BitVec.ofNat 32 (i 1).val
  let v79 : Index := Scalar.indexCast arg1
  let arg2 : BitVec 32 := BitVec.ofNat 32 (i 2).val
  let v80 : Index := Scalar.indexCast arg2
  let c0_32 : Index := 0#32
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v81 : Index := Scalar.indexCast v78
  ![v79.toNat, v80.toNat, 0, v81.toNat]
def k0_off16 (k0_t6 : Fin k0_t6_loop.trips) : Fin 3 → Nat :=
  let c0_38 : Index := 0#32
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v99 : Index := Scalar.indexCast v78
  let c0_39 : Index := 0#32
  ![0, v99.toNat, 0]
def k0_off17 (k0_t6 : Fin k0_t6_loop.trips) : Fin 3 → Nat :=
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v111 : Index := Scalar.indexCast v76
  let c0_42 : Index := 0#32
  let c0_43 : Index := 0#32
  ![v111.toNat, 0, 0]
def k0_mult12 (i : grid0.Coords) (k0_t6 : Fin k0_t6_loop.trips) : BitVec 32 :=
  let arg2 : BitVec 32 := BitVec.ofNat 32 (i 2).val
  let c8_i32_44 : BitVec 32 := 8#32
  let v115 : BitVec 32 := Scalar.muli arg2 c8_i32_44
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v116 : BitVec 32 := Scalar.addi v115 v76
  let c0_i32_46 : BitVec 32 := 0#32
  let v118 : BitVec 1 := Scalar.cmpi .sgt v116 c0_i32_46
  let v119 : BitVec 32 := Scalar.extui v118
  let c0_i32_47 : BitVec 32 := 0#32
  let v120 : BitVec 1 := Scalar.cmpi .slt v116 c0_i32_47
  let v121 : BitVec 32 := Scalar.extui v120
  let v122 : BitVec 32 := Scalar.subi v119 v121
  let c32_i32_45 : BitVec 32 := 32#32
  let c0_i32_48 : BitVec 32 := 0#32
  let v123 : BitVec 1 := Scalar.cmpi .sgt c32_i32_45 c0_i32_48
  let v124 : BitVec 32 := Scalar.extui v123
  let c0_i32_49 : BitVec 32 := 0#32
  let v125 : BitVec 1 := Scalar.cmpi .slt c32_i32_45 c0_i32_49
  let v126 : BitVec 32 := Scalar.extui v125
  let v127 : BitVec 32 := Scalar.subi v124 v126
  let v128 : BitVec 1 := Scalar.cmpi .ne v122 v127
  let v129 : BitVec 32 := Scalar.remsi v116 c32_i32_45
  let c0_i32_50 : BitVec 32 := 0#32
  let v130 : BitVec 1 := Scalar.cmpi .ne v129 c0_i32_50
  let v131 : BitVec 1 := Scalar.andi v128 v130
  let v117 : BitVec 32 := Scalar.divsi v116 c32_i32_45
  let c1_i32_51 : BitVec 32 := 1#32
  let v132 : BitVec 32 := Scalar.subi v117 c1_i32_51
  let v133 : BitVec 32 := Scalar.select v131 v132 v117
  let c128_i32_52 : BitVec 32 := 128#32
  let v134 : BitVec 32 := Scalar.muli v133 c128_i32_52
  v134
@[reducible] def k0_t7_loop : Scf.Loop 32 :=
  let c0_i32_59 : BitVec 32 := 0#32
  let c4_i32_60 : BitVec 32 := 4#32
  let v149 : BitVec 32 := Scalar.addi c0_i32_59 c4_i32_60
  let c1_i32_61 : BitVec 32 := 1#32
  ⟨c0_i32_59, v149, c1_i32_61⟩
def k0_mult13 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32 : BitVec 32 := 256#32
  let v152 : BitVec 32 := Scalar.muli v151 c256_i32
  let c0_i32_65 : BitVec 32 := 0#32
  let v153 : BitVec 32 := Scalar.addi v152 c0_i32_65
  v153
def k0_off18 (k0_t6 : Fin k0_t6_loop.trips) (k0_t7 : Fin k0_t7_loop.trips) (c0_i32_65 : BitVec 32) : Fin 3 → Nat :=
  let c0_66 : Index := 0#32
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32 : BitVec 32 := 256#32
  let v152 : BitVec 32 := Scalar.muli v151 c256_i32
  let v153 : BitVec 32 := Scalar.addi v152 c0_i32_65
  let v154 : BitVec 32 := v153
  let v155 : Index := Scalar.indexCast v154
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v156 : Index := Scalar.indexCast v78
  ![0, v155.toNat, v156.toNat]
def k0_mult14 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32 : BitVec 32 := 16#32
  let v160 : BitVec 32 := Scalar.muli v151 c16_i32
  let c0_i32_67 : BitVec 32 := 0#32
  let v161 : BitVec 32 := Scalar.addi v160 c0_i32_67
  let c0_i32_68 : BitVec 32 := 0#32
  let v162 : BitVec 32 := Scalar.addi v161 c0_i32_68
  let c8_i32_69 : BitVec 32 := 8#32
  let v164 : BitVec 32 := Scalar.muli v162 c8_i32_69
  v164
def k0_off19 (i : grid0.Coords) (k0_t6 : Fin k0_t6_loop.trips) (k0_t7 : Fin k0_t7_loop.trips) (c0_i32_67 : BitVec 32) (c0_i32_68 : BitVec 32) : Fin 3 → Nat :=
  let arg1 : BitVec 32 := BitVec.ofNat 32 (i 1).val
  let v166 : Index := Scalar.indexCast arg1
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32 : BitVec 32 := 16#32
  let v160 : BitVec 32 := Scalar.muli v151 c16_i32
  let v161 : BitVec 32 := Scalar.addi v160 c0_i32_67
  let v162 : BitVec 32 := Scalar.addi v161 c0_i32_68
  let c8_i32_69 : BitVec 32 := 8#32
  let v164 : BitVec 32 := Scalar.muli v162 c8_i32_69
  let v165 : BitVec 32 := v164
  let v167 : Index := Scalar.indexCast v165
  let arg2 : BitVec 32 := BitVec.ofNat 32 (i 2).val
  let c8_i32_44 : BitVec 32 := 8#32
  let v115 : BitVec 32 := Scalar.muli arg2 c8_i32_44
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v116 : BitVec 32 := Scalar.addi v115 v76
  let c0_i32_46 : BitVec 32 := 0#32
  let v118 : BitVec 1 := Scalar.cmpi .sgt v116 c0_i32_46
  let v119 : BitVec 32 := Scalar.extui v118
  let c0_i32_47 : BitVec 32 := 0#32
  let v120 : BitVec 1 := Scalar.cmpi .slt v116 c0_i32_47
  let v121 : BitVec 32 := Scalar.extui v120
  let v122 : BitVec 32 := Scalar.subi v119 v121
  let c32_i32_45 : BitVec 32 := 32#32
  let c0_i32_48 : BitVec 32 := 0#32
  let v123 : BitVec 1 := Scalar.cmpi .sgt c32_i32_45 c0_i32_48
  let v124 : BitVec 32 := Scalar.extui v123
  let c0_i32_49 : BitVec 32 := 0#32
  let v125 : BitVec 1 := Scalar.cmpi .slt c32_i32_45 c0_i32_49
  let v126 : BitVec 32 := Scalar.extui v125
  let v127 : BitVec 32 := Scalar.subi v124 v126
  let v128 : BitVec 1 := Scalar.cmpi .ne v122 v127
  let v129 : BitVec 32 := Scalar.remsi v116 c32_i32_45
  let c0_i32_50 : BitVec 32 := 0#32
  let v130 : BitVec 1 := Scalar.cmpi .ne v129 c0_i32_50
  let v131 : BitVec 1 := Scalar.andi v128 v130
  let v117 : BitVec 32 := Scalar.divsi v116 c32_i32_45
  let c1_i32_51 : BitVec 32 := 1#32
  let v132 : BitVec 32 := Scalar.subi v117 c1_i32_51
  let v133 : BitVec 32 := Scalar.select v131 v132 v117
  let c128_i32_52 : BitVec 32 := 128#32
  let v134 : BitVec 32 := Scalar.muli v133 c128_i32_52
  let v135 : BitVec 32 := v134
  let v168 : Index := Scalar.indexCast v135
  ![v166.toNat, v167.toNat, v168.toNat]
def k0_off20 (k0_t6 : Fin k0_t6_loop.trips) (k0_t7 : Fin k0_t7_loop.trips) (c0_i32_67 : BitVec 32) (c0_i32_68 : BitVec 32) : Fin 3 → Nat :=
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v181 : Index := Scalar.indexCast v76
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32 : BitVec 32 := 16#32
  let v160 : BitVec 32 := Scalar.muli v151 c16_i32
  let v161 : BitVec 32 := Scalar.addi v160 c0_i32_67
  let v162 : BitVec 32 := Scalar.addi v161 c0_i32_68
  let v182 : Index := Scalar.indexCast v162
  let c0_72 : Index := 0#32
  ![v181.toNat, v182.toNat, 0]
def k0_mult15 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_75 : BitVec 32 := 16#32
  let v196 : BitVec 32 := Scalar.muli v151 c16_i32_75
  let c0_i32_76 : BitVec 32 := 0#32
  let v197 : BitVec 32 := Scalar.addi v196 c0_i32_76
  let c1_i32_77 : BitVec 32 := 1#32
  let v198 : BitVec 32 := Scalar.addi v197 c1_i32_77
  let c8_i32_78 : BitVec 32 := 8#32
  let v200 : BitVec 32 := Scalar.muli v198 c8_i32_78
  v200
def k0_mult16 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_84 : BitVec 32 := 256#32
  let v232 : BitVec 32 := Scalar.muli v151 c256_i32_84
  let c32_i32_85 : BitVec 32 := 32#32
  let v233 : BitVec 32 := Scalar.addi v232 c32_i32_85
  v233
def k0_mult17 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_87 : BitVec 32 := 16#32
  let v240 : BitVec 32 := Scalar.muli v151 c16_i32_87
  let c2_i32 : BitVec 32 := 2#32
  let v241 : BitVec 32 := Scalar.addi v240 c2_i32
  let c0_i32_88 : BitVec 32 := 0#32
  let v242 : BitVec 32 := Scalar.addi v241 c0_i32_88
  let c8_i32_89 : BitVec 32 := 8#32
  let v244 : BitVec 32 := Scalar.muli v242 c8_i32_89
  v244
def k0_mult18 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_95 : BitVec 32 := 16#32
  let v276 : BitVec 32 := Scalar.muli v151 c16_i32_95
  let c2_i32_96 : BitVec 32 := 2#32
  let v277 : BitVec 32 := Scalar.addi v276 c2_i32_96
  let c1_i32_97 : BitVec 32 := 1#32
  let v278 : BitVec 32 := Scalar.addi v277 c1_i32_97
  let c8_i32_98 : BitVec 32 := 8#32
  let v280 : BitVec 32 := Scalar.muli v278 c8_i32_98
  v280
def k0_mult19 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_123 : BitVec 32 := 256#32
  let v377 : BitVec 32 := Scalar.muli v151 c256_i32_123
  let c64_i32 : BitVec 32 := 64#32
  let v378 : BitVec 32 := Scalar.addi v377 c64_i32
  v378
def k0_mult20 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_125 : BitVec 32 := 16#32
  let v385 : BitVec 32 := Scalar.muli v151 c16_i32_125
  let c4_i32_126 : BitVec 32 := 4#32
  let v386 : BitVec 32 := Scalar.addi v385 c4_i32_126
  let c0_i32_127 : BitVec 32 := 0#32
  let v387 : BitVec 32 := Scalar.addi v386 c0_i32_127
  let c8_i32_128 : BitVec 32 := 8#32
  let v389 : BitVec 32 := Scalar.muli v387 c8_i32_128
  v389
def k0_mult21 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_134 : BitVec 32 := 16#32
  let v421 : BitVec 32 := Scalar.muli v151 c16_i32_134
  let c4_i32_135 : BitVec 32 := 4#32
  let v422 : BitVec 32 := Scalar.addi v421 c4_i32_135
  let c1_i32_136 : BitVec 32 := 1#32
  let v423 : BitVec 32 := Scalar.addi v422 c1_i32_136
  let c8_i32_137 : BitVec 32 := 8#32
  let v425 : BitVec 32 := Scalar.muli v423 c8_i32_137
  v425
def k0_mult22 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_143 : BitVec 32 := 256#32
  let v457 : BitVec 32 := Scalar.muli v151 c256_i32_143
  let c96_i32 : BitVec 32 := 96#32
  let v458 : BitVec 32 := Scalar.addi v457 c96_i32
  v458
def k0_mult23 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_145 : BitVec 32 := 16#32
  let v465 : BitVec 32 := Scalar.muli v151 c16_i32_145
  let c6_i32 : BitVec 32 := 6#32
  let v466 : BitVec 32 := Scalar.addi v465 c6_i32
  let c0_i32_146 : BitVec 32 := 0#32
  let v467 : BitVec 32 := Scalar.addi v466 c0_i32_146
  let c8_i32_147 : BitVec 32 := 8#32
  let v469 : BitVec 32 := Scalar.muli v467 c8_i32_147
  v469
def k0_mult24 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_153 : BitVec 32 := 16#32
  let v501 : BitVec 32 := Scalar.muli v151 c16_i32_153
  let c6_i32_154 : BitVec 32 := 6#32
  let v502 : BitVec 32 := Scalar.addi v501 c6_i32_154
  let c1_i32_155 : BitVec 32 := 1#32
  let v503 : BitVec 32 := Scalar.addi v502 c1_i32_155
  let c8_i32_156 : BitVec 32 := 8#32
  let v505 : BitVec 32 := Scalar.muli v503 c8_i32_156
  v505
def k0_mult25 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_182 : BitVec 32 := 256#32
  let v602 : BitVec 32 := Scalar.muli v151 c256_i32_182
  let c128_i32_183 : BitVec 32 := 128#32
  let v603 : BitVec 32 := Scalar.addi v602 c128_i32_183
  v603
def k0_mult26 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_185 : BitVec 32 := 16#32
  let v610 : BitVec 32 := Scalar.muli v151 c16_i32_185
  let c8_i32_186 : BitVec 32 := 8#32
  let v611 : BitVec 32 := Scalar.addi v610 c8_i32_186
  let c0_i32_187 : BitVec 32 := 0#32
  let v612 : BitVec 32 := Scalar.addi v611 c0_i32_187
  let c8_i32_188 : BitVec 32 := 8#32
  let v614 : BitVec 32 := Scalar.muli v612 c8_i32_188
  v614
def k0_mult27 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_194 : BitVec 32 := 16#32
  let v646 : BitVec 32 := Scalar.muli v151 c16_i32_194
  let c8_i32_195 : BitVec 32 := 8#32
  let v647 : BitVec 32 := Scalar.addi v646 c8_i32_195
  let c1_i32_196 : BitVec 32 := 1#32
  let v648 : BitVec 32 := Scalar.addi v647 c1_i32_196
  let c8_i32_197 : BitVec 32 := 8#32
  let v650 : BitVec 32 := Scalar.muli v648 c8_i32_197
  v650
def k0_mult28 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_203 : BitVec 32 := 256#32
  let v682 : BitVec 32 := Scalar.muli v151 c256_i32_203
  let c160_i32 : BitVec 32 := 160#32
  let v683 : BitVec 32 := Scalar.addi v682 c160_i32
  v683
def k0_mult29 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_205 : BitVec 32 := 16#32
  let v690 : BitVec 32 := Scalar.muli v151 c16_i32_205
  let c10_i32 : BitVec 32 := 10#32
  let v691 : BitVec 32 := Scalar.addi v690 c10_i32
  let c0_i32_206 : BitVec 32 := 0#32
  let v692 : BitVec 32 := Scalar.addi v691 c0_i32_206
  let c8_i32_207 : BitVec 32 := 8#32
  let v694 : BitVec 32 := Scalar.muli v692 c8_i32_207
  v694
def k0_mult30 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_213 : BitVec 32 := 16#32
  let v726 : BitVec 32 := Scalar.muli v151 c16_i32_213
  let c10_i32_214 : BitVec 32 := 10#32
  let v727 : BitVec 32 := Scalar.addi v726 c10_i32_214
  let c1_i32_215 : BitVec 32 := 1#32
  let v728 : BitVec 32 := Scalar.addi v727 c1_i32_215
  let c8_i32_216 : BitVec 32 := 8#32
  let v730 : BitVec 32 := Scalar.muli v728 c8_i32_216
  v730
def k0_mult31 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_242 : BitVec 32 := 256#32
  let v827 : BitVec 32 := Scalar.muli v151 c256_i32_242
  let c192_i32 : BitVec 32 := 192#32
  let v828 : BitVec 32 := Scalar.addi v827 c192_i32
  v828
def k0_mult32 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_244 : BitVec 32 := 16#32
  let v835 : BitVec 32 := Scalar.muli v151 c16_i32_244
  let c12_i32 : BitVec 32 := 12#32
  let v836 : BitVec 32 := Scalar.addi v835 c12_i32
  let c0_i32_245 : BitVec 32 := 0#32
  let v837 : BitVec 32 := Scalar.addi v836 c0_i32_245
  let c8_i32_246 : BitVec 32 := 8#32
  let v839 : BitVec 32 := Scalar.muli v837 c8_i32_246
  v839
def k0_mult33 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_252 : BitVec 32 := 16#32
  let v871 : BitVec 32 := Scalar.muli v151 c16_i32_252
  let c12_i32_253 : BitVec 32 := 12#32
  let v872 : BitVec 32 := Scalar.addi v871 c12_i32_253
  let c1_i32_254 : BitVec 32 := 1#32
  let v873 : BitVec 32 := Scalar.addi v872 c1_i32_254
  let c8_i32_255 : BitVec 32 := 8#32
  let v875 : BitVec 32 := Scalar.muli v873 c8_i32_255
  v875
def k0_mult34 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_261 : BitVec 32 := 256#32
  let v907 : BitVec 32 := Scalar.muli v151 c256_i32_261
  let c224_i32 : BitVec 32 := 224#32
  let v908 : BitVec 32 := Scalar.addi v907 c224_i32
  v908
def k0_mult35 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_263 : BitVec 32 := 16#32
  let v915 : BitVec 32 := Scalar.muli v151 c16_i32_263
  let c14_i32 : BitVec 32 := 14#32
  let v916 : BitVec 32 := Scalar.addi v915 c14_i32
  let c0_i32_264 : BitVec 32 := 0#32
  let v917 : BitVec 32 := Scalar.addi v916 c0_i32_264
  let c8_i32_265 : BitVec 32 := 8#32
  let v919 : BitVec 32 := Scalar.muli v917 c8_i32_265
  v919
def k0_mult36 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_271 : BitVec 32 := 16#32
  let v951 : BitVec 32 := Scalar.muli v151 c16_i32_271
  let c14_i32_272 : BitVec 32 := 14#32
  let v952 : BitVec 32 := Scalar.addi v951 c14_i32_272
  let c1_i32_273 : BitVec 32 := 1#32
  let v953 : BitVec 32 := Scalar.addi v952 c1_i32_273
  let c8_i32_274 : BitVec 32 := 8#32
  let v955 : BitVec 32 := Scalar.muli v953 c8_i32_274
  v955
def k0_mult37 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c128_i32_300 : BitVec 32 := 128#32
  let v1054 : BitVec 32 := Scalar.muli v151 c128_i32_300
  v1054
def k0_off21 (k0_t6 : Fin k0_t6_loop.trips) (k0_t7 : Fin k0_t7_loop.trips) : Fin 3 → Nat :=
  let c0_301 : Index := 0#32
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v1056 : Index := Scalar.indexCast v78
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c128_i32_300 : BitVec 32 := 128#32
  let v1054 : BitVec 32 := Scalar.muli v151 c128_i32_300
  let v1055 : BitVec 32 := v1054
  let v1057 : Index := Scalar.indexCast v1055
  ![0, v1056.toNat, v1057.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x896 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x64 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== KernelIdeal.lean ====
abbrev S2x1024x28672 : Shape := ⟨3, ![2, 1024, 28672]⟩
abbrev S2x1024x896 : Shape := ⟨3, ![2, 1024, 896]⟩
abbrev S2x28672x512 : Shape := ⟨3, ![2, 28672, 512]⟩
abbrev S2x28672x64 : Shape := ⟨3, ![2, 28672, 64]⟩
abbrev S8x128 : Shape := ⟨2, ![8, 128]⟩
abbrev S1x1024x1024 : Shape := ⟨3, ![1, 1024, 1024]⟩
abbrev S1x1024x896 : Shape := ⟨3, ![1, 1024, 896]⟩
abbrev S1x1024x512 : Shape := ⟨3, ![1, 1024, 512]⟩
abbrev S1x1024x64 : Shape := ⟨3, ![1, 1024, 64]⟩
abbrev S2x512x896 : Shape := ⟨3, ![2, 512, 896]⟩
abbrev S2x28x64x1024 : Shape := ⟨4, ![2, 28, 64, 1024]⟩
abbrev S2x28x64x2x1024 : Shape := ⟨5, ![2, 28, 64, 2, 1024]⟩
abbrev S2x28x64x1x1024 : Shape := ⟨5, ![2, 28, 64, 1, 1024]⟩
abbrev S8x2x128 : Shape := ⟨3, ![8, 2, 128]⟩
abbrev S8x1x128 : Shape := ⟨3, ![8, 1, 128]⟩
abbrev S8x8x64x128 : Shape := ⟨4, ![8, 8, 64, 128]⟩
abbrev S8x8x64x2x128 : Shape := ⟨5, ![8, 8, 64, 2, 128]⟩
abbrev S8x8x64x1x128 : Shape := ⟨5, ![8, 8, 64, 1, 128]⟩
abbrev S8x64x128 : Shape := ⟨3, ![8, 64, 128]⟩
abbrev S8x64x2x128 : Shape := ⟨4, ![8, 64, 2, 128]⟩
abbrev S8x64x1x128 : Shape := ⟨4, ![8, 64, 1, 128]⟩
abbrev S1x32x896 : Shape := ⟨3, ![1, 32, 896]⟩
abbrev S32x896 : Shape := ⟨2, ![32, 896]⟩
abbrev S16x896 : Shape := ⟨2, ![16, 896]⟩
abbrev S1x16x896 : Shape := ⟨3, ![1, 16, 896]⟩
abbrev S16x128 : Shape := ⟨2, ![16, 128]⟩
abbrev S1x32x128 : Shape := ⟨3, ![1, 32, 128]⟩
abbrev S32x128 : Shape := ⟨2, ![32, 128]⟩
abbrev S1x8x128 : Shape := ⟨3, ![1, 8, 128]⟩
abbrev S8x128x1 : Shape := ⟨3, ![8, 128, 1]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S1 : Shape := ⟨1, ![1]⟩
abbrev S1x1x1 : Shape := ⟨3, ![1, 1, 1]⟩
abbrev S1x1x64x128 : Shape := ⟨4, ![1, 1, 64, 128]⟩
abbrev S1x1x64x2x128 : Shape := ⟨5, ![1, 1, 64, 2, 128]⟩
abbrev S1x1x64x1x128 : Shape := ⟨5, ![1, 1, 64, 1, 128]⟩
abbrev S64x128 : Shape := ⟨2, ![64, 128]⟩
abbrev S128x128 : Shape := ⟨2, ![128, 128]⟩
abbrev S128x64 : Shape := ⟨2, ![128, 64]⟩
abbrev S1x128x64 : Shape := ⟨3, ![1, 128, 64]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S2x128 : Shape := ⟨2, ![2, 128]⟩
abbrev S8x8x128 : Shape := ⟨3, ![8, 8, 128]⟩
abbrev S1x128x128 : Shape := ⟨3, ![1, 128, 128]⟩

abbrev nBuf : Space → Nat
  | .hbm => 5
  | .vmem => 14
  | .smem => 0
  | _ => 0

abbrev bufTy : (tb : Table) → Fin (tcTables nBuf tb) → BufTy
  | .hbm, ⟨0, _⟩ => ⟨S2x1024x28672, .fp8e4m3⟩
  | .hbm, ⟨1, _⟩ => ⟨S2x1024x896, .i8⟩
  | .hbm, ⟨2, _⟩ => ⟨S2x28672x512, .i8⟩
  | .hbm, ⟨3, _⟩ => ⟨S2x28672x64, .fp8e4m3⟩
  | .hbm, ⟨4, _⟩ => ⟨S8x128, .f32⟩
  | .local _ .vmem, ⟨0, _⟩ => ⟨S1x1024x1024, .fp8e4m3⟩
  | .local _ .vmem, ⟨1, _⟩ => ⟨S1x1024x1024, .fp8e4m3⟩
  | .local _ .vmem, ⟨2, _⟩ => ⟨S1x1024x896, .i8⟩
  | .local _ .vmem, ⟨3, _⟩ => ⟨S1x1024x896, .i8⟩
  | .local _ .vmem, ⟨4, _⟩ => ⟨S1x1024x512, .i8⟩
  | .local _ .vmem, ⟨5, _⟩ => ⟨S1x1024x512, .i8⟩
  | .local _ .vmem, ⟨6, _⟩ => ⟨S1x1024x64, .fp8e4m3⟩
  | .local _ .vmem, ⟨7, _⟩ => ⟨S1x1024x64, .fp8e4m3⟩
  | .local _ .vmem, ⟨8, _⟩ => ⟨S8x128, .f32⟩
  | .local _ .vmem, ⟨9, _⟩ => ⟨S2x512x896, .i32⟩
  | .local _ .vmem, ⟨10, _⟩ => ⟨S2x28x64x2x1024, .bf16⟩
  | .local _ .vmem, ⟨11, _⟩ => ⟨S8x2x128, .bf16⟩
  | .local _ .vmem, ⟨12, _⟩ => ⟨S8x8x64x2x128, .bf16⟩
  | .local _ .vmem, ⟨13, _⟩ => ⟨S8x64x2x128, .bf16⟩
  | _, _ => ⟨S2x1024x28672, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F] [Named F]

def κ : String → Option EReal := fun
  | "sixth" => some ((1 / 6 : ℝ) : EReal)
  | _ => none

abbrev grid0 : Pipeline.Grid := ⟨3, ![2, 2, 28], ![false, false, false]⟩

def k0_cond1 (i : grid0.Coords) : BitVec 1 :=
  let arg0 : BitVec 32 := BitVec.ofNat 32 (i 0).val
  let c0_i32_4 : BitVec 32 := 0#32
  let v25 : BitVec 1 := Scalar.cmpi .eq arg0 c0_i32_4
  let arg2 : BitVec 32 := BitVec.ofNat 32 (i 2).val
  let c0_i32_5 : BitVec 32 := 0#32
  let v26 : BitVec 1 := Scalar.cmpi .eq arg2 c0_i32_5
  let v27 : BitVec 1 := Scalar.andi v25 v26
  let v28 : BitVec 32 := Scalar.extui v27
  let c0_i32_6 : BitVec 32 := 0#32
  let v29 : BitVec 1 := Scalar.cmpi .ne v28 c0_i32_6
  v29

@[reducible] def k0_t1_loop : Scf.Loop 32 :=
  let c0_i32_15 : BitVec 32 := 0#32
  let c32_i32_16 : BitVec 32 := 32#32
  let v43 : BitVec 32 := Scalar.addi c0_i32_15 c32_i32_16
  let c1_i32_17 : BitVec 32 := 1#32
  ⟨c0_i32_15, v43, c1_i32_17⟩
def k0_mult1 (k0_t1 : Fin k0_t1_loop.trips) : BitVec 32 :=
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c32_i32_21 : BitVec 32 := 32#32
  let v46 : BitVec 32 := Scalar.muli v45 c32_i32_21
  v46
def k0_off1 (k0_t1 : Fin k0_t1_loop.trips) : Fin 3 → Nat :=
  let c0 : Index := 0#32
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c32_i32_21 : BitVec 32 := 32#32
  let v46 : BitVec 32 := Scalar.muli v45 c32_i32_21
  let v47 : BitVec 32 := v46
  let v48 : Index := Scalar.indexCast v47
  let c0_22 : Index := 0#32
  ![0, v48.toNat, 0]
def k0_mult2 (k0_t1 : Fin k0_t1_loop.trips) : BitVec 32 :=
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c16_i32 : BitVec 32 := 16#32
  let v56 : BitVec 32 := Scalar.muli v45 c16_i32
  v56
def k0_off2 (i : grid0.Coords) (k0_t1 : Fin k0_t1_loop.trips) : Fin 3 → Nat :=
  let arg1 : BitVec 32 := BitVec.ofNat 32 (i 1).val
  let v58 : Index := Scalar.indexCast arg1
  let c0_i32_20 : BitVec 32 := 0#32
  let c0_i32_15 : BitVec 32 := 0#32
  let c1_i32_17 : BitVec 32 := 1#32
  let arg13 : BitVec 32 := Scf.iv c0_i32_15 c1_i32_17 k0_t1
  let c1_i32_19 : BitVec 32 := 1#32
  let v44 : BitVec 32 := Scalar.muli arg13 c1_i32_19
  let v45 : BitVec 32 := Scalar.addi c0_i32_20 v44
  let c16_i32 : BitVec 32 := 16#32
  let v56 : BitVec 32 := Scalar.muli v45 c16_i32
  let v57 : BitVec 32 := v56
  let v59 : Index := Scalar.indexCast v57
  let c0_23 : Index := 0#32
  ![v58.toNat, v59.toNat, 0]
def k0_cond3 (i : grid0.Coords) : BitVec 1 :=
  let arg0 : BitVec 32 := BitVec.ofNat 32 (i 0).val
  let c0_i32_11 : BitVec 32 := 0#32
  let v37 : BitVec 1 := Scalar.cmpi .eq arg0 c0_i32_11
  let v38 : BitVec 32 := Scalar.extui v37
  let c0_i32_12 : BitVec 32 := 0#32
  let v39 : BitVec 1 := Scalar.cmpi .ne v38 c0_i32_12
  v39

@[reducible] def k0_t2_loop : Scf.Loop 32 :=
  let c0_i32_16 : BitVec 32 := 0#32
  let c8_i32 : BitVec 32 := 8#32
  let v45 : BitVec 32 := Scalar.addi c0_i32_16 c8_i32
  let c1_i32_17 : BitVec 32 := 1#32
  ⟨c0_i32_16, v45, c1_i32_17⟩
def k0_mult3 (k0_t2 : Fin k0_t2_loop.trips) : BitVec 32 :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let c128_i32 : BitVec 32 := 128#32
  let v53 : BitVec 32 := Scalar.muli v52 c128_i32
  v53
def k0_mult4 (i : grid0.Coords) (k0_t2 : Fin k0_t2_loop.trips) : BitVec 32 :=
  let arg2 : BitVec 32 := BitVec.ofNat 32 (i 2).val
  let c8_i32_23 : BitVec 32 := 8#32
  let v55 : BitVec 32 := Scalar.muli arg2 c8_i32_23
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v56 : BitVec 32 := Scalar.addi v55 v52
  let c0_i32_25 : BitVec 32 := 0#32
  let v58 : BitVec 1 := Scalar.cmpi .sgt v56 c0_i32_25
  let v59 : BitVec 32 := Scalar.extui v58
  let c0_i32_26 : BitVec 32 := 0#32
  let v60 : BitVec 1 := Scalar.cmpi .slt v56 c0_i32_26
  let v61 : BitVec 32 := Scalar.extui v60
  let v62 : BitVec 32 := Scalar.subi v59 v61
  let c32_i32_24 : BitVec 32 := 32#32
  let c0_i32_27 : BitVec 32 := 0#32
  let v63 : BitVec 1 := Scalar.cmpi .sgt c32_i32_24 c0_i32_27
  let v64 : BitVec 32 := Scalar.extui v63
  let c0_i32_28 : BitVec 32 := 0#32
  let v65 : BitVec 1 := Scalar.cmpi .slt c32_i32_24 c0_i32_28
  let v66 : BitVec 32 := Scalar.extui v65
  let v67 : BitVec 32 := Scalar.subi v64 v66
  let v68 : BitVec 1 := Scalar.cmpi .ne v62 v67
  let v69 : BitVec 32 := Scalar.remsi v56 c32_i32_24
  let c0_i32_29 : BitVec 32 := 0#32
  let v70 : BitVec 1 := Scalar.cmpi .ne v69 c0_i32_29
  let v71 : BitVec 1 := Scalar.andi v68 v70
  let v57 : BitVec 32 := Scalar.divsi v56 c32_i32_24
  let c1_i32_30 : BitVec 32 := 1#32
  let v72 : BitVec 32 := Scalar.subi v57 c1_i32_30
  let v73 : BitVec 32 := Scalar.select v71 v72 v57
  let c128_i32_31 : BitVec 32 := 128#32
  let v74 : BitVec 32 := Scalar.muli v73 c128_i32_31
  v74
@[reducible] def k0_t3_loop : Scf.Loop 32 :=
  let c0_i32_38 : BitVec 32 := 0#32
  let c8_i32_39 : BitVec 32 := 8#32
  let v89 : BitVec 32 := Scalar.addi c0_i32_38 c8_i32_39
  let c1_i32_40 : BitVec 32 := 1#32
  ⟨c0_i32_38, v89, c1_i32_40⟩
@[reducible] def k0_t4_loop : Scf.Loop 32 :=
  let c0_i32_44 : BitVec 32 := 0#32
  let c4_i32_45 : BitVec 32 := 4#32
  let v93 : BitVec 32 := Scalar.addi c0_i32_44 c4_i32_45
  let c1_i32_46 : BitVec 32 := 1#32
  ⟨c0_i32_44, v93, c1_i32_46⟩
def k0_mult5 (k0_t3 : Fin k0_t3_loop.trips) (k0_t4 : Fin k0_t4_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c128_i32_61 : BitVec 32 := 128#32
  let v162 : BitVec 32 := Scalar.muli v92 c128_i32_61
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c32_i32_62 : BitVec 32 := 32#32
  let v163 : BitVec 32 := Scalar.muli v161 c32_i32_62
  let v164 : BitVec 32 := Scalar.addi v162 v163
  v164
def k0_off3 (k0_t2 : Fin k0_t2_loop.trips) (k0_t3 : Fin k0_t3_loop.trips) (k0_t4 : Fin k0_t4_loop.trips) : Fin 3 → Nat :=
  let c0_63 : Index := 0#32
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c128_i32_61 : BitVec 32 := 128#32
  let v162 : BitVec 32 := Scalar.muli v92 c128_i32_61
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c32_i32_62 : BitVec 32 := 32#32
  let v163 : BitVec 32 := Scalar.muli v161 c32_i32_62
  let v164 : BitVec 32 := Scalar.addi v162 v163
  let v165 : BitVec 32 := v164
  let v166 : Index := Scalar.indexCast v165
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let c128_i32 : BitVec 32 := 128#32
  let v53 : BitVec 32 := Scalar.muli v52 c128_i32
  let v54 : BitVec 32 := v53
  let v167 : Index := Scalar.indexCast v54
  ![0, v166.toNat, v167.toNat]
def k0_mult6 (k0_t3 : Fin k0_t3_loop.trips) (k0_t4 : Fin k0_t4_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_64 : BitVec 32 := 8#32
  let v172 : BitVec 32 := Scalar.muli v92 c8_i32_64
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c2_i32 : BitVec 32 := 2#32
  let v173 : BitVec 32 := Scalar.muli v161 c2_i32
  let v174 : BitVec 32 := Scalar.addi v172 v173
  let c0_i32_65 : BitVec 32 := 0#32
  let v175 : BitVec 32 := Scalar.addi v174 c0_i32_65
  let c8_i32_66 : BitVec 32 := 8#32
  let v177 : BitVec 32 := Scalar.muli v175 c8_i32_66
  v177
def k0_off4 (i : grid0.Coords) (k0_t2 : Fin k0_t2_loop.trips) (k0_t3 : Fin k0_t3_loop.trips) (k0_t4 : Fin k0_t4_loop.trips) (c0_i32_65 : BitVec 32) : Fin 3 → Nat :=
  let arg1 : BitVec 32 := BitVec.ofNat 32 (i 1).val
  let v179 : Index := Scalar.indexCast arg1
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_64 : BitVec 32 := 8#32
  let v172 : BitVec 32 := Scalar.muli v92 c8_i32_64
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c2_i32 : BitVec 32 := 2#32
  let v173 : BitVec 32 := Scalar.muli v161 c2_i32
  let v174 : BitVec 32 := Scalar.addi v172 v173
  let v175 : BitVec 32 := Scalar.addi v174 c0_i32_65
  let c8_i32_66 : BitVec 32 := 8#32
  let v177 : BitVec 32 := Scalar.muli v175 c8_i32_66
  let v178 : BitVec 32 := v177
  let v180 : Index := Scalar.indexCast v178
  let arg2 : BitVec 32 := BitVec.ofNat 32 (i 2).val
  let c8_i32_23 : BitVec 32 := 8#32
  let v55 : BitVec 32 := Scalar.muli arg2 c8_i32_23
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v56 : BitVec 32 := Scalar.addi v55 v52
  let c0_i32_25 : BitVec 32 := 0#32
  let v58 : BitVec 1 := Scalar.cmpi .sgt v56 c0_i32_25
  let v59 : BitVec 32 := Scalar.extui v58
  let c0_i32_26 : BitVec 32 := 0#32
  let v60 : BitVec 1 := Scalar.cmpi .slt v56 c0_i32_26
  let v61 : BitVec 32 := Scalar.extui v60
  let v62 : BitVec 32 := Scalar.subi v59 v61
  let c32_i32_24 : BitVec 32 := 32#32
  let c0_i32_27 : BitVec 32 := 0#32
  let v63 : BitVec 1 := Scalar.cmpi .sgt c32_i32_24 c0_i32_27
  let v64 : BitVec 32 := Scalar.extui v63
  let c0_i32_28 : BitVec 32 := 0#32
  let v65 : BitVec 1 := Scalar.cmpi .slt c32_i32_24 c0_i32_28
  let v66 : BitVec 32 := Scalar.extui v65
  let v67 : BitVec 32 := Scalar.subi v64 v66
  let v68 : BitVec 1 := Scalar.cmpi .ne v62 v67
  let v69 : BitVec 32 := Scalar.remsi v56 c32_i32_24
  let c0_i32_29 : BitVec 32 := 0#32
  let v70 : BitVec 1 := Scalar.cmpi .ne v69 c0_i32_29
  let v71 : BitVec 1 := Scalar.andi v68 v70
  let v57 : BitVec 32 := Scalar.divsi v56 c32_i32_24
  let c1_i32_30 : BitVec 32 := 1#32
  let v72 : BitVec 32 := Scalar.subi v57 c1_i32_30
  let v73 : BitVec 32 := Scalar.select v71 v72 v57
  let c128_i32_31 : BitVec 32 := 128#32
  let v74 : BitVec 32 := Scalar.muli v73 c128_i32_31
  let v75 : BitVec 32 := v74
  let v181 : Index := Scalar.indexCast v75
  ![v179.toNat, v180.toNat, v181.toNat]
def k0_mult7 (k0_t4 : Fin k0_t4_loop.trips) : BitVec 32 :=
  let c2_i32_69 : BitVec 32 := 2#32
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let v194 : BitVec 32 := Scalar.muli c2_i32_69 v161
  let c0_i32_70 : BitVec 32 := 0#32
  let v195 : BitVec 32 := Scalar.addi v194 c0_i32_70
  let c8_i32_71 : BitVec 32 := 8#32
  let v196 : BitVec 32 := Scalar.muli v195 c8_i32_71
  v196
def k0_off5 (k0_t2 : Fin k0_t2_loop.trips) (k0_t3 : Fin k0_t3_loop.trips) (k0_t4 : Fin k0_t4_loop.trips) (c0_i32_70 : BitVec 32) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v199 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v200 : Index := Scalar.indexCast v92
  let c2_i32_69 : BitVec 32 := 2#32
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let v194 : BitVec 32 := Scalar.muli c2_i32_69 v161
  let v195 : BitVec 32 := Scalar.addi v194 c0_i32_70
  let c8_i32_71 : BitVec 32 := 8#32
  let v196 : BitVec 32 := Scalar.muli v195 c8_i32_71
  let v197 : BitVec 32 := v196
  let v201 : Index := Scalar.indexCast v197
  let c0_72 : Index := 0#32
  ![v199.toNat, v200.toNat, v201.toNat, 0, 0]
def k0_mult8 (k0_t3 : Fin k0_t3_loop.trips) (k0_t4 : Fin k0_t4_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_73 : BitVec 32 := 8#32
  let v205 : BitVec 32 := Scalar.muli v92 c8_i32_73
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let c2_i32_74 : BitVec 32 := 2#32
  let v206 : BitVec 32 := Scalar.muli v161 c2_i32_74
  let v207 : BitVec 32 := Scalar.addi v205 v206
  let c1_i32_75 : BitVec 32 := 1#32
  let v208 : BitVec 32 := Scalar.addi v207 c1_i32_75
  let c8_i32_76 : BitVec 32 := 8#32
  let v210 : BitVec 32 := Scalar.muli v208 c8_i32_76
  v210
def k0_mult9 (k0_t4 : Fin k0_t4_loop.trips) : BitVec 32 :=
  let c2_i32_79 : BitVec 32 := 2#32
  let c0_i32_60 : BitVec 32 := 0#32
  let c0_i32_44 : BitVec 32 := 0#32
  let c1_i32_46 : BitVec 32 := 1#32
  let arg17 : BitVec 32 := Scf.iv c0_i32_44 c1_i32_46 k0_t4
  let c1_i32_59 : BitVec 32 := 1#32
  let v160 : BitVec 32 := Scalar.muli arg17 c1_i32_59
  let v161 : BitVec 32 := Scalar.addi c0_i32_60 v160
  let v227 : BitVec 32 := Scalar.muli c2_i32_79 v161
  let c1_i32_80 : BitVec 32 := 1#32
  let v228 : BitVec 32 := Scalar.addi v227 c1_i32_80
  let c8_i32_81 : BitVec 32 := 8#32
  let v229 : BitVec 32 := Scalar.muli v228 c8_i32_81
  v229
def k0_off6 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v94 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v95 : Index := Scalar.indexCast v92
  let c0_48 : Index := 0#32
  let c0_49 : Index := 0#32
  ![v94.toNat, v95.toNat, 0, 0, 0]
def k0_off7 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v99 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v100 : Index := Scalar.indexCast v92
  let c1 : Index := 1#32
  let c0_50 : Index := 0#32
  ![v99.toNat, v100.toNat, 1, 0, 0]
def k0_off8 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v105 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v106 : Index := Scalar.indexCast v92
  let c2 : Index := 2#32
  let c0_51 : Index := 0#32
  ![v105.toNat, v106.toNat, 2, 0, 0]
def k0_off9 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v111 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v112 : Index := Scalar.indexCast v92
  let c3 : Index := 3#32
  let c0_52 : Index := 0#32
  ![v111.toNat, v112.toNat, 3, 0, 0]
def k0_off10 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v117 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v118 : Index := Scalar.indexCast v92
  let c4 : Index := 4#32
  let c0_53 : Index := 0#32
  ![v117.toNat, v118.toNat, 4, 0, 0]
def k0_off11 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v123 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v124 : Index := Scalar.indexCast v92
  let c5 : Index := 5#32
  let c0_54 : Index := 0#32
  ![v123.toNat, v124.toNat, 5, 0, 0]
def k0_off12 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v129 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v130 : Index := Scalar.indexCast v92
  let c6 : Index := 6#32
  let c0_55 : Index := 0#32
  ![v129.toNat, v130.toNat, 6, 0, 0]
def k0_off13 (k0_t2 : Fin k0_t2_loop.trips) (k0_t3 : Fin k0_t3_loop.trips) : Fin 5 → Nat :=
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let v135 : Index := Scalar.indexCast v52
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let v136 : Index := Scalar.indexCast v92
  let c7 : Index := 7#32
  let c0_56 : Index := 0#32
  ![v135.toNat, v136.toNat, 7, 0, 0]
def k0_mult10 (k0_t3 : Fin k0_t3_loop.trips) : BitVec 32 :=
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_58 : BitVec 32 := 8#32
  let v150 : BitVec 32 := Scalar.muli v92 c8_i32_58
  v150
def k0_off14 (i : grid0.Coords) (k0_t2 : Fin k0_t2_loop.trips) (k0_t3 : Fin k0_t3_loop.trips) : Fin 5 → Nat :=
  let arg1 : BitVec 32 := BitVec.ofNat 32 (i 1).val
  let v152 : Index := Scalar.indexCast arg1
  let arg2 : BitVec 32 := BitVec.ofNat 32 (i 2).val
  let v153 : Index := Scalar.indexCast arg2
  let c0_i32_43 : BitVec 32 := 0#32
  let c0_i32_38 : BitVec 32 := 0#32
  let c1_i32_40 : BitVec 32 := 1#32
  let arg15 : BitVec 32 := Scf.iv c0_i32_38 c1_i32_40 k0_t3
  let c1_i32_42 : BitVec 32 := 1#32
  let v91 : BitVec 32 := Scalar.muli arg15 c1_i32_42
  let v92 : BitVec 32 := Scalar.addi c0_i32_43 v91
  let c8_i32_58 : BitVec 32 := 8#32
  let v150 : BitVec 32 := Scalar.muli v92 c8_i32_58
  let v151 : BitVec 32 := v150
  let v154 : Index := Scalar.indexCast v151
  let c0_i32_22 : BitVec 32 := 0#32
  let c0_i32_16 : BitVec 32 := 0#32
  let c1_i32_17 : BitVec 32 := 1#32
  let arg13 : BitVec 32 := Scf.iv c0_i32_16 c1_i32_17 k0_t2
  let c1_i32_21 : BitVec 32 := 1#32
  let v51 : BitVec 32 := Scalar.muli arg13 c1_i32_21
  let v52 : BitVec 32 := Scalar.addi c0_i32_22 v51
  let c128_i32 : BitVec 32 := 128#32
  let v53 : BitVec 32 := Scalar.muli v52 c128_i32
  let v54 : BitVec 32 := v53
  let v155 : Index := Scalar.indexCast v54
  ![v152.toNat, v153.toNat, v154.toNat, 0, v155.toNat]
def k0_cond4 (i : grid0.Coords) : BitVec 1 :=
  let arg0 : BitVec 32 := BitVec.ofNat 32 (i 0).val
  let c1_i32_13 : BitVec 32 := 1#32
  let v40 : BitVec 1 := Scalar.cmpi .eq arg0 c1_i32_13
  let v41 : BitVec 32 := Scalar.extui v40
  let c0_i32_14 : BitVec 32 := 0#32
  let v42 : BitVec 1 := Scalar.cmpi .ne v41 c0_i32_14
  v42

@[reducible] def k0_t5_loop : Scf.Loop 32 :=
  let c1_i32_18 : BitVec 32 := 1#32
  let c255_i32 : BitVec 32 := 255#32
  let v55 : BitVec 32 := Scalar.addi c1_i32_18 c255_i32
  let c1_i32_19 : BitVec 32 := 1#32
  ⟨c1_i32_18, v55, c1_i32_19⟩
@[reducible] def k0_t6_loop : Scf.Loop 32 :=
  let c0_i32_27 : BitVec 32 := 0#32
  let c8_i32 : BitVec 32 := 8#32
  let v74 : BitVec 32 := Scalar.addi c0_i32_27 c8_i32
  let c1_i32_28 : BitVec 32 := 1#32
  ⟨c0_i32_27, v74, c1_i32_28⟩
def k0_mult11 (k0_t6 : Fin k0_t6_loop.trips) : BitVec 32 :=
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  v77
def k0_off15 (i : grid0.Coords) (k0_t6 : Fin k0_t6_loop.trips) : Fin 5 → Nat :=
  let arg1 : BitVec 32 := BitVec.ofNat 32 (i 1).val
  let v79 : Index := Scalar.indexCast arg1
  let arg2 : BitVec 32 := BitVec.ofNat 32 (i 2).val
  let v80 : Index := Scalar.indexCast arg2
  let c0_32 : Index := 0#32
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v81 : Index := Scalar.indexCast v78
  ![v79.toNat, v80.toNat, 0, 0, v81.toNat]
def k0_off16 (k0_t6 : Fin k0_t6_loop.trips) : Fin 3 → Nat :=
  let c0_38 : Index := 0#32
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v99 : Index := Scalar.indexCast v78
  let c0_39 : Index := 0#32
  ![0, v99.toNat, 0]
def k0_off17 (k0_t6 : Fin k0_t6_loop.trips) : Fin 4 → Nat :=
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v111 : Index := Scalar.indexCast v76
  let c0_42 : Index := 0#32
  let c0_43 : Index := 0#32
  ![v111.toNat, 0, 0, 0]
def k0_mult12 (i : grid0.Coords) (k0_t6 : Fin k0_t6_loop.trips) : BitVec 32 :=
  let arg2 : BitVec 32 := BitVec.ofNat 32 (i 2).val
  let c8_i32_44 : BitVec 32 := 8#32
  let v115 : BitVec 32 := Scalar.muli arg2 c8_i32_44
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v116 : BitVec 32 := Scalar.addi v115 v76
  let c0_i32_46 : BitVec 32 := 0#32
  let v118 : BitVec 1 := Scalar.cmpi .sgt v116 c0_i32_46
  let v119 : BitVec 32 := Scalar.extui v118
  let c0_i32_47 : BitVec 32 := 0#32
  let v120 : BitVec 1 := Scalar.cmpi .slt v116 c0_i32_47
  let v121 : BitVec 32 := Scalar.extui v120
  let v122 : BitVec 32 := Scalar.subi v119 v121
  let c32_i32_45 : BitVec 32 := 32#32
  let c0_i32_48 : BitVec 32 := 0#32
  let v123 : BitVec 1 := Scalar.cmpi .sgt c32_i32_45 c0_i32_48
  let v124 : BitVec 32 := Scalar.extui v123
  let c0_i32_49 : BitVec 32 := 0#32
  let v125 : BitVec 1 := Scalar.cmpi .slt c32_i32_45 c0_i32_49
  let v126 : BitVec 32 := Scalar.extui v125
  let v127 : BitVec 32 := Scalar.subi v124 v126
  let v128 : BitVec 1 := Scalar.cmpi .ne v122 v127
  let v129 : BitVec 32 := Scalar.remsi v116 c32_i32_45
  let c0_i32_50 : BitVec 32 := 0#32
  let v130 : BitVec 1 := Scalar.cmpi .ne v129 c0_i32_50
  let v131 : BitVec 1 := Scalar.andi v128 v130
  let v117 : BitVec 32 := Scalar.divsi v116 c32_i32_45
  let c1_i32_51 : BitVec 32 := 1#32
  let v132 : BitVec 32 := Scalar.subi v117 c1_i32_51
  let v133 : BitVec 32 := Scalar.select v131 v132 v117
  let c128_i32_52 : BitVec 32 := 128#32
  let v134 : BitVec 32 := Scalar.muli v133 c128_i32_52
  v134
@[reducible] def k0_t7_loop : Scf.Loop 32 :=
  let c0_i32_59 : BitVec 32 := 0#32
  let c4_i32_60 : BitVec 32 := 4#32
  let v149 : BitVec 32 := Scalar.addi c0_i32_59 c4_i32_60
  let c1_i32_61 : BitVec 32 := 1#32
  ⟨c0_i32_59, v149, c1_i32_61⟩
def k0_mult13 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32 : BitVec 32 := 256#32
  let v152 : BitVec 32 := Scalar.muli v151 c256_i32
  let c0_i32_65 : BitVec 32 := 0#32
  let v153 : BitVec 32 := Scalar.addi v152 c0_i32_65
  v153
def k0_off18 (k0_t6 : Fin k0_t6_loop.trips) (k0_t7 : Fin k0_t7_loop.trips) (c0_i32_65 : BitVec 32) : Fin 3 → Nat :=
  let c0_66 : Index := 0#32
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32 : BitVec 32 := 256#32
  let v152 : BitVec 32 := Scalar.muli v151 c256_i32
  let v153 : BitVec 32 := Scalar.addi v152 c0_i32_65
  let v154 : BitVec 32 := v153
  let v155 : Index := Scalar.indexCast v154
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v156 : Index := Scalar.indexCast v78
  ![0, v155.toNat, v156.toNat]
def k0_mult14 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32 : BitVec 32 := 16#32
  let v160 : BitVec 32 := Scalar.muli v151 c16_i32
  let c0_i32_67 : BitVec 32 := 0#32
  let v161 : BitVec 32 := Scalar.addi v160 c0_i32_67
  let c0_i32_68 : BitVec 32 := 0#32
  let v162 : BitVec 32 := Scalar.addi v161 c0_i32_68
  let c8_i32_69 : BitVec 32 := 8#32
  let v164 : BitVec 32 := Scalar.muli v162 c8_i32_69
  v164
def k0_off19 (i : grid0.Coords) (k0_t6 : Fin k0_t6_loop.trips) (k0_t7 : Fin k0_t7_loop.trips) (c0_i32_67 : BitVec 32) (c0_i32_68 : BitVec 32) : Fin 3 → Nat :=
  let arg1 : BitVec 32 := BitVec.ofNat 32 (i 1).val
  let v166 : Index := Scalar.indexCast arg1
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32 : BitVec 32 := 16#32
  let v160 : BitVec 32 := Scalar.muli v151 c16_i32
  let v161 : BitVec 32 := Scalar.addi v160 c0_i32_67
  let v162 : BitVec 32 := Scalar.addi v161 c0_i32_68
  let c8_i32_69 : BitVec 32 := 8#32
  let v164 : BitVec 32 := Scalar.muli v162 c8_i32_69
  let v165 : BitVec 32 := v164
  let v167 : Index := Scalar.indexCast v165
  let arg2 : BitVec 32 := BitVec.ofNat 32 (i 2).val
  let c8_i32_44 : BitVec 32 := 8#32
  let v115 : BitVec 32 := Scalar.muli arg2 c8_i32_44
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v116 : BitVec 32 := Scalar.addi v115 v76
  let c0_i32_46 : BitVec 32 := 0#32
  let v118 : BitVec 1 := Scalar.cmpi .sgt v116 c0_i32_46
  let v119 : BitVec 32 := Scalar.extui v118
  let c0_i32_47 : BitVec 32 := 0#32
  let v120 : BitVec 1 := Scalar.cmpi .slt v116 c0_i32_47
  let v121 : BitVec 32 := Scalar.extui v120
  let v122 : BitVec 32 := Scalar.subi v119 v121
  let c32_i32_45 : BitVec 32 := 32#32
  let c0_i32_48 : BitVec 32 := 0#32
  let v123 : BitVec 1 := Scalar.cmpi .sgt c32_i32_45 c0_i32_48
  let v124 : BitVec 32 := Scalar.extui v123
  let c0_i32_49 : BitVec 32 := 0#32
  let v125 : BitVec 1 := Scalar.cmpi .slt c32_i32_45 c0_i32_49
  let v126 : BitVec 32 := Scalar.extui v125
  let v127 : BitVec 32 := Scalar.subi v124 v126
  let v128 : BitVec 1 := Scalar.cmpi .ne v122 v127
  let v129 : BitVec 32 := Scalar.remsi v116 c32_i32_45
  let c0_i32_50 : BitVec 32 := 0#32
  let v130 : BitVec 1 := Scalar.cmpi .ne v129 c0_i32_50
  let v131 : BitVec 1 := Scalar.andi v128 v130
  let v117 : BitVec 32 := Scalar.divsi v116 c32_i32_45
  let c1_i32_51 : BitVec 32 := 1#32
  let v132 : BitVec 32 := Scalar.subi v117 c1_i32_51
  let v133 : BitVec 32 := Scalar.select v131 v132 v117
  let c128_i32_52 : BitVec 32 := 128#32
  let v134 : BitVec 32 := Scalar.muli v133 c128_i32_52
  let v135 : BitVec 32 := v134
  let v168 : Index := Scalar.indexCast v135
  ![v166.toNat, v167.toNat, v168.toNat]
def k0_off20 (k0_t6 : Fin k0_t6_loop.trips) (k0_t7 : Fin k0_t7_loop.trips) (c0_i32_67 : BitVec 32) (c0_i32_68 : BitVec 32) : Fin 4 → Nat :=
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let v181 : Index := Scalar.indexCast v76
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32 : BitVec 32 := 16#32
  let v160 : BitVec 32 := Scalar.muli v151 c16_i32
  let v161 : BitVec 32 := Scalar.addi v160 c0_i32_67
  let v162 : BitVec 32 := Scalar.addi v161 c0_i32_68
  let v182 : Index := Scalar.indexCast v162
  let c0_72 : Index := 0#32
  ![v181.toNat, v182.toNat, 0, 0]
def k0_mult15 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_75 : BitVec 32 := 16#32
  let v196 : BitVec 32 := Scalar.muli v151 c16_i32_75
  let c0_i32_76 : BitVec 32 := 0#32
  let v197 : BitVec 32 := Scalar.addi v196 c0_i32_76
  let c1_i32_77 : BitVec 32 := 1#32
  let v198 : BitVec 32 := Scalar.addi v197 c1_i32_77
  let c8_i32_78 : BitVec 32 := 8#32
  let v200 : BitVec 32 := Scalar.muli v198 c8_i32_78
  v200
def k0_mult16 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_84 : BitVec 32 := 256#32
  let v232 : BitVec 32 := Scalar.muli v151 c256_i32_84
  let c32_i32_85 : BitVec 32 := 32#32
  let v233 : BitVec 32 := Scalar.addi v232 c32_i32_85
  v233
def k0_mult17 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_87 : BitVec 32 := 16#32
  let v240 : BitVec 32 := Scalar.muli v151 c16_i32_87
  let c2_i32 : BitVec 32 := 2#32
  let v241 : BitVec 32 := Scalar.addi v240 c2_i32
  let c0_i32_88 : BitVec 32 := 0#32
  let v242 : BitVec 32 := Scalar.addi v241 c0_i32_88
  let c8_i32_89 : BitVec 32 := 8#32
  let v244 : BitVec 32 := Scalar.muli v242 c8_i32_89
  v244
def k0_mult18 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_95 : BitVec 32 := 16#32
  let v276 : BitVec 32 := Scalar.muli v151 c16_i32_95
  let c2_i32_96 : BitVec 32 := 2#32
  let v277 : BitVec 32 := Scalar.addi v276 c2_i32_96
  let c1_i32_97 : BitVec 32 := 1#32
  let v278 : BitVec 32 := Scalar.addi v277 c1_i32_97
  let c8_i32_98 : BitVec 32 := 8#32
  let v280 : BitVec 32 := Scalar.muli v278 c8_i32_98
  v280
def k0_mult19 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_123 : BitVec 32 := 256#32
  let v377 : BitVec 32 := Scalar.muli v151 c256_i32_123
  let c64_i32 : BitVec 32 := 64#32
  let v378 : BitVec 32 := Scalar.addi v377 c64_i32
  v378
def k0_mult20 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_125 : BitVec 32 := 16#32
  let v385 : BitVec 32 := Scalar.muli v151 c16_i32_125
  let c4_i32_126 : BitVec 32 := 4#32
  let v386 : BitVec 32 := Scalar.addi v385 c4_i32_126
  let c0_i32_127 : BitVec 32 := 0#32
  let v387 : BitVec 32 := Scalar.addi v386 c0_i32_127
  let c8_i32_128 : BitVec 32 := 8#32
  let v389 : BitVec 32 := Scalar.muli v387 c8_i32_128
  v389
def k0_mult21 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_134 : BitVec 32 := 16#32
  let v421 : BitVec 32 := Scalar.muli v151 c16_i32_134
  let c4_i32_135 : BitVec 32 := 4#32
  let v422 : BitVec 32 := Scalar.addi v421 c4_i32_135
  let c1_i32_136 : BitVec 32 := 1#32
  let v423 : BitVec 32 := Scalar.addi v422 c1_i32_136
  let c8_i32_137 : BitVec 32 := 8#32
  let v425 : BitVec 32 := Scalar.muli v423 c8_i32_137
  v425
def k0_mult22 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_143 : BitVec 32 := 256#32
  let v457 : BitVec 32 := Scalar.muli v151 c256_i32_143
  let c96_i32 : BitVec 32 := 96#32
  let v458 : BitVec 32 := Scalar.addi v457 c96_i32
  v458
def k0_mult23 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_145 : BitVec 32 := 16#32
  let v465 : BitVec 32 := Scalar.muli v151 c16_i32_145
  let c6_i32 : BitVec 32 := 6#32
  let v466 : BitVec 32 := Scalar.addi v465 c6_i32
  let c0_i32_146 : BitVec 32 := 0#32
  let v467 : BitVec 32 := Scalar.addi v466 c0_i32_146
  let c8_i32_147 : BitVec 32 := 8#32
  let v469 : BitVec 32 := Scalar.muli v467 c8_i32_147
  v469
def k0_mult24 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_153 : BitVec 32 := 16#32
  let v501 : BitVec 32 := Scalar.muli v151 c16_i32_153
  let c6_i32_154 : BitVec 32 := 6#32
  let v502 : BitVec 32 := Scalar.addi v501 c6_i32_154
  let c1_i32_155 : BitVec 32 := 1#32
  let v503 : BitVec 32 := Scalar.addi v502 c1_i32_155
  let c8_i32_156 : BitVec 32 := 8#32
  let v505 : BitVec 32 := Scalar.muli v503 c8_i32_156
  v505
def k0_mult25 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_182 : BitVec 32 := 256#32
  let v602 : BitVec 32 := Scalar.muli v151 c256_i32_182
  let c128_i32_183 : BitVec 32 := 128#32
  let v603 : BitVec 32 := Scalar.addi v602 c128_i32_183
  v603
def k0_mult26 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_185 : BitVec 32 := 16#32
  let v610 : BitVec 32 := Scalar.muli v151 c16_i32_185
  let c8_i32_186 : BitVec 32 := 8#32
  let v611 : BitVec 32 := Scalar.addi v610 c8_i32_186
  let c0_i32_187 : BitVec 32 := 0#32
  let v612 : BitVec 32 := Scalar.addi v611 c0_i32_187
  let c8_i32_188 : BitVec 32 := 8#32
  let v614 : BitVec 32 := Scalar.muli v612 c8_i32_188
  v614
def k0_mult27 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_194 : BitVec 32 := 16#32
  let v646 : BitVec 32 := Scalar.muli v151 c16_i32_194
  let c8_i32_195 : BitVec 32 := 8#32
  let v647 : BitVec 32 := Scalar.addi v646 c8_i32_195
  let c1_i32_196 : BitVec 32 := 1#32
  let v648 : BitVec 32 := Scalar.addi v647 c1_i32_196
  let c8_i32_197 : BitVec 32 := 8#32
  let v650 : BitVec 32 := Scalar.muli v648 c8_i32_197
  v650
def k0_mult28 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_203 : BitVec 32 := 256#32
  let v682 : BitVec 32 := Scalar.muli v151 c256_i32_203
  let c160_i32 : BitVec 32 := 160#32
  let v683 : BitVec 32 := Scalar.addi v682 c160_i32
  v683
def k0_mult29 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_205 : BitVec 32 := 16#32
  let v690 : BitVec 32 := Scalar.muli v151 c16_i32_205
  let c10_i32 : BitVec 32 := 10#32
  let v691 : BitVec 32 := Scalar.addi v690 c10_i32
  let c0_i32_206 : BitVec 32 := 0#32
  let v692 : BitVec 32 := Scalar.addi v691 c0_i32_206
  let c8_i32_207 : BitVec 32 := 8#32
  let v694 : BitVec 32 := Scalar.muli v692 c8_i32_207
  v694
def k0_mult30 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_213 : BitVec 32 := 16#32
  let v726 : BitVec 32 := Scalar.muli v151 c16_i32_213
  let c10_i32_214 : BitVec 32 := 10#32
  let v727 : BitVec 32 := Scalar.addi v726 c10_i32_214
  let c1_i32_215 : BitVec 32 := 1#32
  let v728 : BitVec 32 := Scalar.addi v727 c1_i32_215
  let c8_i32_216 : BitVec 32 := 8#32
  let v730 : BitVec 32 := Scalar.muli v728 c8_i32_216
  v730
def k0_mult31 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_242 : BitVec 32 := 256#32
  let v827 : BitVec 32 := Scalar.muli v151 c256_i32_242
  let c192_i32 : BitVec 32 := 192#32
  let v828 : BitVec 32 := Scalar.addi v827 c192_i32
  v828
def k0_mult32 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_244 : BitVec 32 := 16#32
  let v835 : BitVec 32 := Scalar.muli v151 c16_i32_244
  let c12_i32 : BitVec 32 := 12#32
  let v836 : BitVec 32 := Scalar.addi v835 c12_i32
  let c0_i32_245 : BitVec 32 := 0#32
  let v837 : BitVec 32 := Scalar.addi v836 c0_i32_245
  let c8_i32_246 : BitVec 32 := 8#32
  let v839 : BitVec 32 := Scalar.muli v837 c8_i32_246
  v839
def k0_mult33 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_252 : BitVec 32 := 16#32
  let v871 : BitVec 32 := Scalar.muli v151 c16_i32_252
  let c12_i32_253 : BitVec 32 := 12#32
  let v872 : BitVec 32 := Scalar.addi v871 c12_i32_253
  let c1_i32_254 : BitVec 32 := 1#32
  let v873 : BitVec 32 := Scalar.addi v872 c1_i32_254
  let c8_i32_255 : BitVec 32 := 8#32
  let v875 : BitVec 32 := Scalar.muli v873 c8_i32_255
  v875
def k0_mult34 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c256_i32_261 : BitVec 32 := 256#32
  let v907 : BitVec 32 := Scalar.muli v151 c256_i32_261
  let c224_i32 : BitVec 32 := 224#32
  let v908 : BitVec 32 := Scalar.addi v907 c224_i32
  v908
def k0_mult35 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_263 : BitVec 32 := 16#32
  let v915 : BitVec 32 := Scalar.muli v151 c16_i32_263
  let c14_i32 : BitVec 32 := 14#32
  let v916 : BitVec 32 := Scalar.addi v915 c14_i32
  let c0_i32_264 : BitVec 32 := 0#32
  let v917 : BitVec 32 := Scalar.addi v916 c0_i32_264
  let c8_i32_265 : BitVec 32 := 8#32
  let v919 : BitVec 32 := Scalar.muli v917 c8_i32_265
  v919
def k0_mult36 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c16_i32_271 : BitVec 32 := 16#32
  let v951 : BitVec 32 := Scalar.muli v151 c16_i32_271
  let c14_i32_272 : BitVec 32 := 14#32
  let v952 : BitVec 32 := Scalar.addi v951 c14_i32_272
  let c1_i32_273 : BitVec 32 := 1#32
  let v953 : BitVec 32 := Scalar.addi v952 c1_i32_273
  let c8_i32_274 : BitVec 32 := 8#32
  let v955 : BitVec 32 := Scalar.muli v953 c8_i32_274
  v955
def k0_mult37 (k0_t7 : Fin k0_t7_loop.trips) : BitVec 32 :=
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c128_i32_300 : BitVec 32 := 128#32
  let v1054 : BitVec 32 := Scalar.muli v151 c128_i32_300
  v1054
def k0_off21 (k0_t6 : Fin k0_t6_loop.trips) (k0_t7 : Fin k0_t7_loop.trips) : Fin 3 → Nat :=
  let c0_301 : Index := 0#32
  let c0_i32_31 : BitVec 32 := 0#32
  let c0_i32_27 : BitVec 32 := 0#32
  let c1_i32_28 : BitVec 32 := 1#32
  let arg13 : BitVec 32 := Scf.iv c0_i32_27 c1_i32_28 k0_t6
  let c1_i32_30 : BitVec 32 := 1#32
  let v75 : BitVec 32 := Scalar.muli arg13 c1_i32_30
  let v76 : BitVec 32 := Scalar.addi c0_i32_31 v75
  let c128_i32 : BitVec 32 := 128#32
  let v77 : BitVec 32 := Scalar.muli v76 c128_i32
  let v78 : BitVec 32 := v77
  let v1056 : Index := Scalar.indexCast v78
  let c0_i32_64 : BitVec 32 := 0#32
  let c0_i32_59 : BitVec 32 := 0#32
  let c1_i32_61 : BitVec 32 := 1#32
  let arg14 : BitVec 32 := Scf.iv c0_i32_59 c1_i32_61 k0_t7
  let c1_i32_63 : BitVec 32 := 1#32
  let v150 : BitVec 32 := Scalar.muli arg14 c1_i32_63
  let v151 : BitVec 32 := Scalar.addi c0_i32_64 v150
  let c128_i32_300 : BitVec 32 := 128#32
  let v1054 : BitVec 32 := Scalar.muli v151 c128_i32_300
  let v1055 : BitVec 32 := v1054
  let v1057 : Index := Scalar.indexCast v1055
  ![0, v1056.toNat, v1057.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  let c0_i32_0 : BitVec 32 := 0#32
  ![v0.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x896 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x64 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== ReferenceIdeal.lean ====
abbrev S2x1024x28672 : Shape := ⟨3, ![2, 1024, 28672]⟩
abbrev S2x1024x896 : Shape := ⟨3, ![2, 1024, 896]⟩
abbrev S2x28672x512 : Shape := ⟨3, ![2, 28672, 512]⟩
abbrev S2x28672x64 : Shape := ⟨3, ![2, 28672, 64]⟩
abbrev S8x128 : Shape := ⟨2, ![8, 128]⟩
abbrev S2x1024x896x32 : Shape := ⟨4, ![2, 1024, 896, 32]⟩
abbrev S2x1024x896x1 : Shape := ⟨4, ![2, 1024, 896, 1]⟩
abbrev S2x28672x1024 : Shape := ⟨3, ![2, 28672, 1024]⟩
abbrev S2x28672x64x16 : Shape := ⟨4, ![2, 28672, 64, 16]⟩
abbrev S1x2x28672x64x16 : Shape := ⟨5, ![1, 2, 28672, 64, 16]⟩
abbrev S1 : Shape := ⟨1, ![1]⟩
abbrev S1x1x1x1x1 : Shape := ⟨5, ![1, 1, 1, 1, 1]⟩
abbrev S8x128x255 : Shape := ⟨3, ![8, 128, 255]⟩
abbrev S8x128x1 : Shape := ⟨3, ![8, 128, 1]⟩
abbrev S1x1 : Shape := ⟨2, ![1, 1]⟩
abbrev S2x28672x64x1 : Shape := ⟨4, ![2, 28672, 64, 1]⟩
abbrev S2x28672x512x2 : Shape := ⟨4, ![2, 28672, 512, 2]⟩
abbrev S2x28672x512x1 : Shape := ⟨4, ![2, 28672, 512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x1024x28672, .fp8e4m3⟩
  | .hbm, ⟨1, _⟩ => ⟨S2x1024x896, .i8⟩
  | .hbm, ⟨2, _⟩ => ⟨S2x28672x512, .i8⟩
  | .hbm, ⟨3, _⟩ => ⟨S2x28672x64, .fp8e4m3⟩
  | .hbm, ⟨4, _⟩ => ⟨S8x128, .f32⟩
  | .local _ .vmem, ⟨0, _⟩ => ⟨S2x1024x28672, .fp8e4m3⟩
  | .local _ .vmem, ⟨1, _⟩ => ⟨S2x1024x896, .i8⟩
  | .local _ .vmem, ⟨2, _⟩ => ⟨S2x28672x512, .i8⟩
  | .local _ .vmem, ⟨3, _⟩ => ⟨S2x28672x64, .fp8e4m3⟩
  | .local _ .vmem, ⟨4, _⟩ => ⟨S8x128, .f32⟩
  | _, _ => ⟨S2x1024x28672, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1024x28672 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x28672x512 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x28672x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelFrame.lean ====
/-
  `Kernel`, the frame: every staging and scratch buffer is owned at SOME contents between grid points, the two
  inputs' staging buffers at their blocks. Nothing is said of what the outputs hold; the claim is that the run
  ends, that the arguments are unchanged and that every semaphore counter is back at zero.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- Before every trip of `k0_t3_loop`: what the region only reads at its contents, what it writes at some contents. -/
abbrev inv_t3 (c : Dev nD) (arg3 : Memref sig .tc .vmem S1x1024x1024 .fp8e4m3) (arg8 : Memref sig .tc .vmem S2x512x896 .i32) (arg9 : Memref sig .tc .vmem S2x28x64x1024 .i32) (arg11 : Memref sig .tc .vmem S8x8x64x128 .i32) (X_arg3 : BufTy.Contents (Elt F) arg3.view.ty) (X_arg8 : BufTy.Contents (Elt F) arg8.view.ty) : sProp 𝕄 :=
  iprop((arg3.view.loc (c : Thread nD τ) ↦[arg3.view.set]{fullShare} X_arg3) ∗ (arg8.view.loc (c : Thread nD τ) ↦[arg8.view.set]{fullShare} X_arg8) ∗ (∃ f, (arg9.view.loc (c : Thread nD τ) ↦[arg9.view.set]{fullShare} f)) ∗ (∃ f, (arg11.view.loc (c : Thread nD τ) ↦[arg11.view.set]{fullShare} f)))

set_option warn.classDefReducibility false in
/-- The loop by that invariant. -/
@[sl_loop] def hand_t3 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x1024 .i32) (harg9 : arg9.IsWhole) (arg10 : Memref sig .tc .vmem S8x128 .i32) (harg10 : arg10.IsWhole) (arg11 : Memref sig .tc .vmem S8x8x64x128 .i32) (harg11 : arg11.IsWhole) (arg12 : Memref sig .tc .vmem S8x64x128 .i32) (harg12 : arg12.IsWhole) (arg1 : BitVec 32) (k0_h3 : k0_cond3 i = 1#1) (k0_t2 : Fin k0_t2_loop.trips) (v52 : BitVec 32) (v54 : BitVec 32) (v75 : BitVec 32) (v88 : IVec S8x128 32) (c0_i32_38 : BitVec 32) (init : FVec F S16x128 .bf16) (X_arg3 : BufTy.Contents (Elt F) arg3.view.ty) (X_arg8 : BufTy.Contents (Elt F) arg8.view.ty) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg1 k0_h3 k0_t2 v52 v54 v75 v88 c0_i32_38 init where
  inv := fun _ _ => inv_t3 c arg3 arg8 arg9 arg11 X_arg3 X_arg8
  step k acc := by
    unfold k0_t3_body
    iintro ⟨HR_arg3, HR_arg8, ⟨%f_arg9, HW_arg9⟩, ⟨%f_arg11, HW_arg11⟩⟩
    sl_exec
    sl_step
    sl_close

/-- Before every trip of `k0_t2_loop`: what the region only reads at its contents, what it writes at some contents. -/
abbrev inv_t2 (c : Dev nD) (arg3 : Memref sig .tc .vmem S1x1024x1024 .fp8e4m3) (arg8 : Memref sig .tc .vmem S2x512x896 .i32) (arg9 : Memref sig .tc .vmem S2x28x64x1024 .i32) (arg11 : Memref sig .tc .vmem S8x8x64x128 .i32) (X_arg3 : BufTy.Contents (Elt F) arg3.view.ty) (X_arg8 : BufTy.Contents (Elt F) arg8.view.ty) : sProp 𝕄 :=
  iprop((arg3.view.loc (c : Thread nD τ) ↦[arg3.view.set]{fullShare} X_arg3) ∗ (arg8.view.loc (c : Thread nD τ) ↦[arg8.view.set]{fullShare} X_arg8) ∗ (∃ f, (arg9.view.loc (c : Thread nD τ) ↦[arg9.view.set]{fullShare} f)) ∗ (∃ f, (arg11.view.loc (c : Thread nD τ) ↦[arg11.view.set]{fullShare} f)))

set_option warn.classDefReducibility false in
/-- The loop by that invariant. -/
@[sl_loop] def hand_t2 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x1024 .i32) (harg9 : arg9.IsWhole) (arg10 : Memref sig .tc .vmem S8x128 .i32) (harg10 : arg10.IsWhole) (arg11 : Memref sig .tc .vmem S8x8x64x128 .i32) (harg11 : arg11.IsWhole) (arg12 : Memref sig .tc .vmem S8x64x128 .i32) (harg12 : arg12.IsWhole) (arg1 : BitVec 32) (arg2 : BitVec 32) (v24 : IVec S8x128 32) (k0_h3 : k0_cond3 i = 1#1) (init : FVec F S16x128 .bf16) (X_arg3 : BufTy.Contents (Elt F) arg3.view.ty) (X_arg8 : BufTy.Contents (Elt F) arg8.view.ty) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg1 arg2 v24 k0_h3 init where
  inv := fun _ _ => inv_t2 c arg3 arg8 arg9 arg11 X_arg3 X_arg8
  step k acc := by
    unfold k0_t2_body
    iintro ⟨HR_arg3, HR_arg8, ⟨%f_arg9, HW_arg9⟩, ⟨%f_arg11, HW_arg11⟩⟩
    sl_exec
    sl_step
    sl_close

/-- Before every trip of `k0_t6_loop`: what the region only reads at its contents, what it writes at some contents. -/
abbrev inv_t6 (c : Dev nD) (arg3 : Memref sig .tc .vmem S1x1024x1024 .fp8e4m3) (arg8 : Memref sig .tc .vmem S2x512x896 .i32) (arg5 : Memref sig .tc .vmem S1x1024x512 .i8) (arg6 : Memref sig .tc .vmem S1x1024x64 .fp8e4m3) (arg9 : Memref sig .tc .vmem S2x28x64x1024 .i32) (arg12 : Memref sig .tc .vmem S8x64x128 .i32) (X_arg3 : BufTy.Contents (Elt F) arg3.view.ty) (X_arg8 : BufTy.Contents (Elt F) arg8.view.ty) : sProp 𝕄 :=
  iprop((arg3.view.loc (c : Thread nD τ) ↦[arg3.view.set]{fullShare} X_arg3) ∗ (arg8.view.loc (c : Thread nD τ) ↦[arg8.view.set]{fullShare} X_arg8) ∗ (∃ f, (arg5.view.loc (c : Thread nD τ) ↦[arg5.view.set]{fullShare} f)) ∗ (∃ f, (arg6.view.loc (c : Thread nD τ) ↦[arg6.view.set]{fullShare} f)) ∗ (∃ f, (arg9.view.loc (c : Thread nD τ) ↦[arg9.view.set]{fullShare} f)) ∗ (∃ f, (arg12.view.loc (c : Thread nD τ) ↦[arg12.view.set]{fullShare} f)))

set_option warn.classDefReducibility false in
/-- The loop by that invariant. -/
@[sl_loop] def hand_t6 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x1024 .i32) (harg9 : arg9.IsWhole) (arg10 : Memref sig .tc .vmem S8x128 .i32) (harg10 : arg10.IsWhole) (arg11 : Memref sig .tc .vmem S8x8x64x128 .i32) (harg11 : arg11.IsWhole) (arg12 : Memref sig .tc .vmem S8x64x128 .i32) (harg12 : arg12.IsWhole) (arg1 : BitVec 32) (arg2 : BitVec 32) (v24 : IVec S8x128 32) (k0_h4 : k0_cond4 i = 1#1) (v43 : Vec F S8x128 .i32) (v56 : IVec S8x128 32) (X_arg3 : BufTy.Contents (Elt F) arg3.view.ty) (X_arg8 : BufTy.Contents (Elt F) arg8.view.ty) :
    LoopInvTy_k0_t6 (F := F) Unit ℕ (UR sig nD τ) ℕ Variants.none c none Set.univ i arg3 harg3 arg4 harg4 arg5 harg5 arg6 harg6 arg7 harg7 arg8 harg8 arg9 harg9 arg10 harg10 arg11 harg11 arg12 harg12 arg1 arg2 v24 k0_h4 v43 v56 where
  inv := fun _ _ => inv_t6 c arg3 arg8 arg5 arg6 arg9 arg12 X_arg3 X_arg8
  step k acc := by
    unfold k0_t6_body
    iintro ⟨HR_arg3, HR_arg8, ⟨%f_arg5, HW_arg5⟩, ⟨%f_arg6, HW_arg6⟩, ⟨%f_arg9, HW_arg9⟩, ⟨%f_arg12, HW_arg12⟩⟩
    sl_exec
    sl_step
    sl_close

/-! ## The body, run once per case of its conditionals -/

/-- The condition of the second `scf.if` (the accumulator is cleared at the first point), as the kernel computes it. -/
def cond2 (i : grid0.Coords) : BitVec 1 :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32)) : BitVec 32) 0#32

/-- What the body is handed and hands back: the inputs' buffers at their contents, every other buffer at some contents. -/
abbrev bufs (c : Dev nD) (arg3 : Memref sig .tc .vmem S1x1024x1024 .fp8e4m3) (arg4 : Memref sig .tc .vmem S1x1024x896 .i8) (arg5 : Memref sig .tc .vmem S1x1024x512 .i8) (arg6 : Memref sig .tc .vmem S1x1024x64 .fp8e4m3) (arg7 : Memref sig .tc .vmem S8x128 .f32) (arg8 : Memref sig .tc .vmem S2x512x896 .i32) (arg9 : Memref sig .tc .vmem S2x28x64x1024 .i32) (arg10 : Memref sig .tc .vmem S8x128 .i32) (arg11 : Memref sig .tc .vmem S8x8x64x128 .i32) (arg12 : Memref sig .tc .vmem S8x64x128 .i32) (X_arg3 : BufTy.Contents (Elt F) arg3.view.ty) (X_arg4 : BufTy.Contents (Elt F) arg4.view.ty) : sProp 𝕄 :=
  iprop((arg3.view.loc (c : Thread nD τ) ↦[arg3.view.set]{fullShare} X_arg3) ∗ (arg4.view.loc (c : Thread nD τ) ↦[arg4.view.set]{fullShare} X_arg4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))

set_option maxHeartbeats 4000000 in
/-- The body's triple, for any continuation. -/
theorem kernelRun (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x1024 .i32) (harg9 : arg9.IsWhole) (arg10 : Memref sig .tc .vmem S8x128 .i32) (harg10 : arg10.IsWhole) (arg11 : Memref sig .tc .vmem S8x8x64x128 .i32) (harg11 : arg11.IsWhole) (arg12 : Memref sig .tc .vmem S8x64x128 .i32) (harg12 : arg12.IsWhole) (X_arg3 : BufTy.Contents (Elt F) arg3.view.ty) (X_arg4 : BufTy.Contents (Elt F) arg4.view.ty) (K : PUnit → sProp 𝕄) :
    iprop(bufs c arg3 arg4 arg5 arg6 arg7 arg8 arg9 arg10 arg11 arg12 X_arg3 X_arg4 ∗ (bufs c arg3 arg4 arg5 arg6 arg7 arg8 arg9 arg10 arg11 arg12 X_arg3 X_arg4 -∗ K ⟨⟩))
      ⊢ wp frame (wpE (defs₀ (F := F)) Variants.none c none) Set.univ (cc0_requant i arg3 harg3 arg4 harg4 arg5 harg5 arg6 harg6 arg7 harg7 arg8 harg8 arg9 harg9 arg10 harg10 arg11 harg11 arg12 harg12) K := by
  iintro ⟨⟨HR_arg3, HR_arg4, ⟨%f_arg5, HW_arg5⟩, ⟨%f_arg6, HW_arg6⟩, ⟨%f_arg7, HW_arg7⟩, ⟨%f_arg8, HW_arg8⟩, ⟨%f_arg9, HW_arg9⟩, ⟨%f_arg10, HW_arg10⟩, ⟨%f_arg11, HW_arg11⟩, ⟨%f_arg12, HW_arg12⟩⟩, Hk⟩
  sl_unfold [cc0_requant]
  by_cases h1 : k0_cond1 i = 1#1 <;> by_cases h2 : cond2 i = 1#1 <;> by_cases h3 : k0_cond3 i = 1#1 <;>
    by_cases h4 : k0_cond4 i = 1#1
  all_goals unfold cond2 at h2
  all_goals sl_exec
  all_goals sl_step
  all_goals iapply Hk
  all_goals sl_close

/-! ## The proof data and the body obligation -/

variable (m : (ℓ : Loc nD τ sig) → Buf (Elt F) ℓ) (ρ : Dev nD → PrngReg)

/-- The three result windows are forgotten: nothing here reads what the kernel leaves in them. -/
def forgets0 : Fin 5 → Bool := ![false, false, true, true, true]

/-- The proof data on core `c`: the arrays as launched; each input's buffer left at its block; the invariant: every
    scratch buffer at some contents; full shares; nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => Pipeline.Dat.unnamed (cfg := cfg0) 2 t
    | 3 => fun t => Pipeline.Dat.unnamed (cfg := cfg0) 3 t
    | 4 => fun t => Pipeline.Dat.unnamed (cfg := cfg0) 4 t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d) ∗ (∃ d, owns (c : Thread nD τ) (st0_3 t) fullShare d)
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d) ∗ (∃ d, owns (c : Thread nD τ) (st0_3 t) fullShare d)
    ∗ (∃ d, owns (c : Thread nD τ) (st0_4 t) fullShare d))

/-- A scratch buffer owned whole at some contents, as the memory operations address it. -/
theorem scratch_pt (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  simp only [Memref.view_whole, View.set_whole]

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    show (dats m 0 c).after 0 t = iblk m c 0 t from rfl, show (dats m 0 c).after 1 t = iblk m c 1 t from rfl]
  unfold Pipeline.ΦA
  rw [scopedRest0_eq]
  simp only [scratch_pt]
  unfold owns
  iintro ⟨⟨⟨HS0, HS1, HS2, HS3, HS4⟩, Hg⟩, HO, ⟨%d0, %f0, %hf0, H0⟩, ⟨%d1, %f1, %hf1, H1⟩, ⟨%d2, %f2, -, H2⟩, ⟨%d3, %f3, -, H3⟩, ⟨%d4, %f4, -, H4⟩⟩
  iapply (kernelRun c (grid0.coords t) (st0_0 t) _ (st0_1 t) _ (st0_2 t) _ (st0_3 t) _ (st0_4 t) _ (Memref.whole cc0_scratch0) _
    (Memref.whole cc0_scratch1) _ (Memref.whole cc0_scratch2) _ (Memref.whole cc0_scratch3) _ (Memref.whole cc0_scratch4) _ f0 f1 _)
  isplitl [H0 H1 H2 H3 H4 HS0 HS1 HS2 HS3 HS4]
  · isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    iexact HS4
  iintro ⟨H0, H1, ⟨%g2, H2⟩, ⟨%g3, H3⟩, ⟨%g4, H4⟩, HS0, HS1, HS2, HS3, HS4⟩
  isplitl [Hg HS0 HS1 HS2 HS3 HS4]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HO]; · iexact HO
  isplitl [H0]
  · iexists f0; isplitr; · ipureintro; exact hf0
    iexact H0
  isplitl [H1]
  · iexists f1; isplitr; · ipureintro; exact hf1
    iexact H1
  isplitl [H2]
  · iexists _, _; isplitr; swap; · iexact H2
    ipureintro; rfl
  isplitl [H3]
  · iexists _, _; isplitr; swap; · iexact H3
    ipureintro; rfl
  iexists _, _; isplitr; swap; · iexact H4
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every fair execution terminates; the arguments are as launched and every semaphore counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame and quiescence, at any value instance. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans ((A_eq m c 0).trans (V_main_arg0 m c)),
    (h.1.arr_in c 1 rfl).trans ((A_eq m c 1).trans (V_main_arg1 m c))⟩, h.2⟩) (run_main m ρ)

end Cert.Kernel.Hand

end
-- ==== Proof.Spec.lean ====
/-
  The quantisation, element by element, over natural coordinates: a batch `b`, a token `t`, a channel `c` and a group
  `g` of sixteen tokens. Both the kernel and the reference are shown to end with these values.
-/
module

public import Idealize.ShloMosaic.PureOps.Ideal
public import Idealize.ShloMosaic.Lib.Pointwise

@[expose] public section

set_option maxRecDepth 16384

noncomputable section

namespace Cert.Spec

open Idealize.ShloMosaic

/-- An array of three axes read at natural coordinates (`d` outside). -/
def rd3 {α : Type} {n0 n1 n2 : ℕ} (d : α) (X : (⟨3, ![n0, n1, n2]⟩ : Shape).Idx → α) (a b c : ℕ) : α :=
  if h : a < n0 ∧ b < n1 ∧ c < n2 then X (ix3 ⟨a, h.1⟩ ⟨b, h.2.1⟩ ⟨c, h.2.2⟩) else d

theorem rd3_eq {α : Type} {n0 n1 n2 : ℕ} (d : α) (X : (⟨3, ![n0, n1, n2]⟩ : Shape).Idx → α) (a : Fin n0) (b : Fin n1) (c : Fin n2) :
    X (ix3 a b c) = rd3 d X a.val b.val c.val := by
  unfold rd3
  rw [dif_pos ⟨a.isLt, b.isLt, c.isLt⟩]

/-- The power of two whose float32 exponent field is the word. -/
def pw (w : BitVec 32) : EReal := Ideal.ofBits .f32 (w <<< 23)

/-- The absolute value. -/
def av (v : EReal) : EReal := max v (-v)

abbrev XTy : Type := (⟨3, ![2, 1024, 28672]⟩ : Shape).Idx → EReal
abbrev STy : Type := (⟨3, ![2, 1024, 896]⟩ : Shape).Idx → BitVec 8

section
variable (x : XTy) (s : STy)

/-- The scale of token `t` and channel `c`. -/
def sc (b t c : ℕ) : EReal := pw ((rd3 0 s b t (c / 32)).setWidth 32)

/-- The dequantised element. -/
def vn (b t c : ℕ) : EReal := rd3 0 x b t c * sc s b t c

/-- The largest magnitude of a group. -/
def am (b g c : ℕ) : EReal := ⨆ i : Fin 16, av (vn x s b (16 * g + i.val) c)

/-- The largest magnitude. -/
def top : EReal := ⨆ b : Fin 2, ⨆ t : Fin 1024, ⨆ c : Fin 28672, av (vn x s b.val t.val c.val)

/-- The largest magnitude over the largest product of scale and code. -/
def zz : EReal := top x s * Ideal.ofBits .f32 0x39C30C31#32

/-- How many of the first `n` normal powers of two `z` reaches. -/
def cnt (z : EReal) : ℕ → BitVec 32
  | 0 => 0#32
  | n + 1 => cnt z n + (if pw (BitVec.ofNat 32 (n + 1)) ≤ z then 1#32 else 0#32)

/-- The exponent of the global scale. -/
def eg : BitVec 32 := if zz x s = 0 then 0#32 else cnt (zz x s) 255 - 126#32

/-- The global scale and its inverse. -/
def gs : EReal := pw (127#32 + eg x s)
def dn : EReal := pw (127#32 - eg x s)

/-- The scale of a group, and the scale its elements are divided by. -/
def cs (b g c : ℕ) : EReal :=
  min (Ideal.ofBits .f32 0x43E00000#32) (max 0 (am x s b g c * dn x s * Ideal.ofBits .f32 0x3F800800#32 * ((1 / 6 : ℝ) : EReal)))
def sf (b g c : ℕ) : EReal := if cs x s b g c = 0 then 1 else cs x s b g c

/-- The element over its scales. -/
def yn (b t c : ℕ) : EReal := vn x s b t c * dn x s * (sf x s b (t / 16) c)⁻¹

/-- The four-bit code of a value. -/
def kk (q : EReal) : BitVec 32 :=
  (if Ideal.ofBits .f32 0x3E800000#32 < q then 1#32 else 0#32) + (if Ideal.ofBits .f32 0x3F400000#32 ≤ q then 1#32 else 0#32)
  + (if Ideal.ofBits .f32 0x3FA00000#32 < q then 1#32 else 0#32) + (if Ideal.ofBits .f32 0x3FE00000#32 ≤ q then 1#32 else 0#32)
  + (if Ideal.ofBits .f32 0x40200000#32 < q then 1#32 else 0#32) + (if Ideal.ofBits .f32 0x40600000#32 ≤ q then 1#32 else 0#32)
  + (if Ideal.ofBits .f32 0x40A00000#32 < q then 1#32 else 0#32)
def nib (y : EReal) : BitVec 32 :=
  kk (min (av y) (Ideal.ofBits .f32 0x40C00000#32))
  + (if y < 0 ∧ 0 < (kk (min (av y) (Ideal.ofBits .f32 0x40C00000#32))).toNat then 8#32 else 0#32)

/-- The two codes of a byte. -/
def code (b c w : ℕ) : BitVec 8 :=
  (nib (yn x s b (2 * w) c) ||| (nib (yn x s b (2 * w + 1) c) <<< 4)).setWidth 8

end

theorem am_le (x : XTy) (s : STy) (b g c : ℕ) (y : EReal) :
    am x s b g c ≤ y ↔ ∀ i < 16, av (vn x s b (16 * g + i) c) ≤ y := by
  unfold am
  rw [iSup_le_iff]
  exact ⟨fun h i hi => h ⟨i, hi⟩, fun h i => h i.val i.isLt⟩

theorem top_le (x : XTy) (s : STy) (y : EReal) :
    top x s ≤ y ↔ ∀ b < 2, ∀ t < 1024, ∀ c < 28672, av (vn x s b t c) ≤ y := by
  unfold top
  simp only [iSup_le_iff]
  exact ⟨fun h b hb t ht c hc => h ⟨b, hb⟩ ⟨t, ht⟩ ⟨c, hc⟩, fun h b t c => h _ b.isLt _ t.isLt _ c.isLt⟩

theorem av_nonneg (v : EReal) : 0 ≤ av v := by
  unfold av
  rcases le_total 0 v with h | h
  · exact le_max_of_le_left h
  · exact le_max_of_le_right (EReal.neg_nonneg.2 h)

end Cert.Spec

end
-- ==== Proof.PayZero.lean ====
/-
  What the kernel's first phase computes, element by element: the words of the scales, a piece of magnitudes, and the
  largest of a group.
-/
module

public import proofs.«01_k».proof.Proof.Spec
public import proofs.«01_k».proof.Proof.Gen.KernelIdeal.Skeleton
public import Idealize.ShloMosaic.Lib.BitcastPair

@[expose] public section

set_option maxRecDepth 16384

noncomputable section

namespace Cert.KernelIdeal.Val

open Idealize.ShloMosaic Cert.KernelIdeal.Gen Cert.Spec
open Cert.KernelIdeal

/-- The upper half of the power of two of a scale byte. -/
def half (w : BitVec 8) : BitVec 16 := ((w.setWidth 32) <<< 7).setWidth 16

/-- The scales of two neighbouring tokens in one word. -/
def word (lo hi : BitVec 8) : BitVec 32 := half hi ++ half lo

/-- A pattern without sign and without fraction is a power of two. -/
theorem ieee_pow (e m : ℕ) {w : ℕ} (b : BitVec w) (n : ℕ) (h1 : b.extractLsb' (e + m) 1 = 0#1) (h2 : (b.extractLsb' m e).toNat = n)
    (h3 : (b.extractLsb' 0 m).toNat = 0) :
    Ideal.ieee e m b = if n = 2 ^ e - 1 then ⊤ else if n = 0 then 0 else (((2 : ℝ) ^ ((n : ℤ) - (2 ^ (e - 1) - 1)) : ℝ) : EReal) := by
  unfold Ideal.ieee
  rw [h1, h2, h3]
  have hz : ((2 : ℝ) ^ m) * (2 : ℝ) ^ ((n : ℤ) - (2 ^ (e - 1) - 1) - (m : ℤ)) = (2 : ℝ) ^ ((n : ℤ) - (2 ^ (e - 1) - 1)) := by
    rw [← zpow_natCast, ← zpow_add₀ (by norm_num : (2 : ℝ) ≠ 0)]
    congr 1
    ring
  by_cases ha : n = 2 ^ e - 1
  · simp [ha]
  · by_cases hb : n = 0
    · simp [hb]
    · rw [if_neg ha, if_neg ha, if_neg hb, if_neg hb, ← hz]
      simp

/-- The value of a power of two with the given exponent field. -/
theorem pw_eq (n : ℕ) (hn : n < 256) :
    pw (BitVec.ofNat 32 n) = if n = 255 then ⊤ else if n = 0 then 0 else (((2 : ℝ) ^ ((n : ℤ) - 127) : ℝ) : EReal) := by
  unfold pw Ideal.ofBits
  have g (n : Fin 256) : ((BitVec.ofNat 32 n.val) <<< 23).extractLsb' (8 + 23) 1 = 0#1
      ∧ (((BitVec.ofNat 32 n.val) <<< 23).extractLsb' 23 8).toNat = n.val
      ∧ (((BitVec.ofNat 32 n.val) <<< 23).extractLsb' 0 23).toNat = 0 := by revert n; decide
  obtain ⟨g1, g2, g3⟩ := g ⟨n, hn⟩
  exact ieee_pow 8 23 _ n g1 g2 g3

theorem half_val (w : BitVec 8) : Ideal.ofBits .bf16 (half w) = pw (w.setWidth 32) := by
  have h (w : BitVec 8) : (half w).extractLsb' (8 + 7) 1 = 0#1 ∧ ((half w).extractLsb' 7 8).toNat = w.toNat
      ∧ ((half w).extractLsb' 0 7).toNat = 0 ∧ w.setWidth 32 = BitVec.ofNat 32 w.toNat := by revert w; decide +kernel
  obtain ⟨h1, h2, h3, h4⟩ := h w
  rw [h4, pw_eq _ w.isLt]
  exact ieee_pow 8 7 _ _ h1 h2 h3

theorem word_half (lo hi : BitVec 8) (p : ℕ) (hp : p < 2) :
    (word lo hi).extractLsb' (16 * p) 16 = half (if p = 0 then lo else hi) := by
  unfold word
  interval_cases p
  · exact BitVec.extractLsb'_append_eq_right
  · exact BitVec.extractLsb'_append_eq_left

theorem src_lo (r : Fin 16) (k : Fin 896) (p : ℕ) (hp) :
    bitcasts_S32x896_w16_S16x896_w32.srcIdx (ix2 r k) p hp = ix2 ⟨p, hp 0 rfl⟩ k := by
  funext a
  refine Fin.ext ?_
  fin_cases a
  · exact Shape.Bitcasts.srcIdx_row _ _ _ _ _ rfl
  · exact Shape.Bitcasts.srcIdx_other _ _ _ _ _ (by decide)

theorem src_hi (r : Fin 16) (l : Fin 128) (p : ℕ) (hp) :
    bitcasts_S8x128_w32_S16x128_w16.srcIdx (ix2 r l) p hp = ix2 ⟨p, hp 0 rfl⟩ l := by
  funext a
  refine Fin.ext ?_
  fin_cases a
  · exact Shape.Bitcasts.srcIdx_row _ _ _ _ _ rfl
  · exact Shape.Bitcasts.srcIdx_other _ _ _ _ _ (by decide)

theorem pay92_eq (v : Vec Ideal S1x32x896 .i8) (r : Fin 16) (k : Fin 896) :
    k0_pay92 (F := Ideal) v (ix3 0 r k) = word (v (ix3 0 ⟨2 * r.val, by omega⟩ k)) (v (ix3 0 ⟨2 * r.val + 1, by omega⟩ k)) := by
  unfold k0_pay92
  pointwise [bitcast_16_32, src_lo]
  rfl

/-- The column of the gathered word. -/
def col (w : BitVec 32) : Fin 128 :=
  ⟨(Scalar.select (IntOp.cmpi CmpIPredicate.slt w 0#32) (IntOp.addi w 128#32) w).toNat % 128, Nat.mod_lt _ (by decide)⟩

theorem pay13_eq (v88 : IVec S8x128 32) (v : Vec Ideal S1x32x128 .fp8e4m3) (w : Vec Ideal S1x8x128 .i32) (r : Fin 16) (l : Fin 128) :
    k0_pay13 (F := Ideal) v88 v w (ix2 r l) = av (v (ix3 0 ⟨r.val, by omega⟩ l))
      * Ideal.ofBits .bf16 (BitVec.extractLsb' (16 * (r.val % 2)) 16 (w (ix3 0 ⟨r.val / 2, by omega⟩ (col (v88 (ix2 ⟨r.val / 2, by omega⟩ l)))))) := by
  unfold k0_pay13 k0_pay12
  pointwise [bitcast_32_16, src_hi]
  rfl

theorem pay16_eq (lo hi : FVec Ideal S8x128 .bf16) (r : Fin 8) (p : Fin 2) (l : Fin 128) :
    k0_pay16 (F := Ideal) lo hi (ix5 0 0 r p l) = if p.val % 2 = 0 then lo (ix2 r l) else hi (ix2 r l) := by
  unfold k0_pay16
  pointwise []

theorem pay14_eq (v88 : IVec S8x128 32) (v : Vec Ideal S1x32x128 .fp8e4m3) (w : Vec Ideal S1x8x128 .i32) (r : Fin 8) (p : Fin 2) (l : Fin 128) :
    k0_pay16 (F := Ideal) (k0_pay14 v88 v w) (k0_pay15 v88 v w) (ix5 0 0 r p l) = av (v (ix3 0 ⟨2 * r.val + p.val, by omega⟩ l))
      * Ideal.ofBits .bf16 (BitVec.extractLsb' (16 * p.val) 16 (w (ix3 0 r (col (v88 (ix2 r l)))))) := by
  rw [pay16_eq]
  unfold k0_pay14 k0_pay15
  pointwise [pay13_eq]
  rcases p with ⟨p, hp⟩
  interval_cases p
  · simp [show 2 * r.val / 2 = r.val by omega]
  · simp [show (2 * r.val + 1) / 2 = r.val by omega, show (2 * r.val + 1) % 2 = 1 by omega]

theorem pay17_eq (v88 : IVec S8x128 32) (v : Vec Ideal S1x32x128 .fp8e4m3) (w : Vec Ideal S1x8x128 .i32) (r : Fin 8) (p : Fin 2) (l : Fin 128) :
    k0_pay17 (F := Ideal) v88 (k0_pay12 v) w (ix5 0 0 r p l) = av (v (ix3 0 ⟨16 + (2 * r.val + p.val), by omega⟩ l))
      * Ideal.ofBits .bf16 (BitVec.extractLsb' (16 * p.val) 16 (w (ix3 0 r (col (v88 (ix2 r l)))))) := by
  unfold k0_pay17 k0_pay12
  pointwise [bitcast_32_16, src_hi]
  rcases p with ⟨p, hp⟩
  interval_cases p
  · simp [show 2 * r.val / 2 = r.val by omega]
    rfl
  · simp [show (2 * r.val + 1) / 2 = r.val by omega, show (2 * r.val + 1) % 2 = 1 by omega]
    rfl

theorem pay91_eq (r : Fin 8) (l : Fin 128) : k0_pay91 (ix2 r l) = BitVec.ofNat 32 (l.val / 32) := by
  unfold k0_pay91
  pointwise []
  revert l
  decide

/-- The columns the lanes gather from at a tile. -/
theorem col_tile (j : Fin 28) (t : Fin 8) (q : Fin 4) :
    (col (IntOp.addi (BitVec.ofNat 32 q.val) (BitVec.ofNat 32 ((8 * j.val + t.val) % 32 * 4)))).val = (8 * j.val + t.val) % 32 * 4 + q.val := by
  revert j t q; decide +kernel

theorem pay23_eq (j : Fin 28) (t : Fin 8) (r : Fin 8) (l : Fin 128) :
    (col (k0_pay23 (BitVec.ofNat 32 j.val) k0_pay91 0#32 1#32 t (ix2 r l))).val = (8 * j.val + t.val) % 32 * 4 + l.val / 32 := by
  unfold k0_pay23
  pointwise [pay91_eq]
  refine (congrArg (fun w => (col (IntOp.addi (BitVec.ofNat 32 (l.val / 32)) w)).val) ?_).trans (col_tile j t ⟨l.val / 32, by omega⟩)
  clear l r
  revert j t
  decide +kernel

/-- The largest of a group of sixteen, on both rows of its pair. -/
theorem pay20_le (a b c d e f g h : Vec Ideal S1x1x8x2x128 .bf16) (r : Fin 16) (l : Fin 128) (y : EReal) :
    k0_pay20 (F := Ideal) (k0_pay18 a b c d) e (k0_pay19 e) f g h (ix2 r l) ≤ y ↔
      ∀ p : Fin 2, ∀ x ∈ [a, b, c, d, e, f, g, h], x (ix5 0 0 ⟨r.val / 2, by omega⟩ p l) ≤ y := by
  unfold k0_pay20 k0_pay18 k0_pay19
  pointwise []
  obtain ⟨q, hq | hq⟩ : ∃ q, r.val = 2 * q ∨ r.val = 2 * q + 1 := ⟨r.val / 2, by omega⟩
  · simp only [hq, show 2 * q / 2 = q by omega, show 2 * q % 2 = 0 by omega, show (2 * q + 1) / 2 = q by omega, show (2 * q + 1) % 2 = 1 by omega,
      if_true, Nat.one_ne_zero, if_false, max_le_iff, Fin.forall_fin_two, List.forall_mem_cons, List.not_mem_nil, false_imp_iff, implies_true, and_true]
    tauto
  · simp only [hq, show 2 * q / 2 = q by omega, show 2 * q % 2 = 0 by omega, show (2 * q + 1) / 2 = q by omega, show (2 * q + 1) % 2 = 1 by omega,
      if_true, Nat.one_ne_zero, if_false, max_le_iff, Fin.forall_fin_two, List.forall_mem_cons, List.not_mem_nil, false_imp_iff, implies_true, and_true]
    tauto

theorem pay2_eq (m : FVec Ideal S16x128 .bf16) (r : Fin 8) (p : Fin 2) (l : Fin 128) :
    k0_pay2 (F := Ideal) (rowsOfParity 0 S8x128 m bitcasts_S16x128_w16_S8x128_w32) (rowsOfParity 1 S8x128 m bitcasts_S16x128_w16_S8x128_w32) (ix5 0 0 r p l)
      = m (ix2 ⟨2 * r.val + p.val, by omega⟩ l) := by
  unfold k0_pay2
  pointwise []
  rcases p with ⟨p, hp⟩
  interval_cases p
  · simp
  · simp

theorem pay1_eq (a : Vec Ideal S8x2x128 .bf16) (r : Fin 16) (l : Fin 128) :
    k0_pay1 (F := Ideal) a (ix2 r l) = a (ix3 ⟨r.val / 2, by omega⟩ ⟨r.val % 2, by omega⟩ l) := by
  unfold k0_pay1
  pointwise []
  rcases (show r.val % 2 = 0 ∨ r.val % 2 = 1 by omega) with h | h
  · simp [h]
  · simp [h]

theorem pay4_eq (a : FVec Ideal S16x128 .bf16) (r : Fin 8) (p : Fin 2) (l : Fin 128) :
    k0_pay4 (F := Ideal) a (ix3 r p l) = a (ix2 ⟨2 * r.val + p.val, by omega⟩ l) := by
  unfold k0_pay4
  pointwise []
  rcases p with ⟨p, hp⟩
  interval_cases p
  · simp
  · simp

theorem neg_inf : Ideal.ofBits .f32 0xFF800000#32 = ⊥ := by
  unfold Ideal.ofBits Ideal.ieee
  simp

theorem pay5_eq (a : Vec Ideal S8x2x128 .bf16) (m : EReal) (h : ∀ y, (∀ (r : Fin 8) (l : Fin 128), a (ix3 r 1 l) ≤ y) ↔ m ≤ y) (r : Fin 8) (l : Fin 128) :
    k0_pay5 (F := Ideal) a (ix2 r l) = m * Ideal.ofBits .f32 0x39C30C31#32 := by
  unfold k0_pay5
  pointwise []
  congr 1
  refine eq_of_forall_ge_iff fun y => ?_
  rw [Finset.fold_max_le, ← h, show Ideal.ofBits FTy.f32 4286578688#32 = ⊥ from neg_inf]
  simp [Prod.forall]

theorem pay6_eq (r : Fin 8) (l : Fin 128) : k0_pay6 (ix2 r l) = 0#32 := by
  unfold k0_pay6
  pointwise []

theorem shl23 (w : BitVec 32) : IntOp.shli ArithUnit.vector w 23#32 = w <<< 23 := by
  unfold IntOp.shli
  simp

theorem iv_one (n : ℕ) : Scf.iv 1#32 1#32 n = BitVec.ofNat 32 (n + 1) := by
  unfold Scf.iv
  refine BitVec.eq_of_toNat_eq ?_
  simp [Nat.add_comm]

theorem pay7_eq (a : Vec Ideal S8x2x128 .bf16) (z : EReal) (r : Fin 8) (l : Fin 128) (hz : k0_pay5 (F := Ideal) a (ix2 r l) = z)
    (t : Fin k0_t5_loop.trips) (c : IVec S8x128 32) (hc : c (ix2 r l) = cnt z t.val) :
    k0_pay7 (F := Ideal) a t c (ix2 r l) = cnt z (t.val + 1) := by
  unfold k0_pay7
  pointwise []
  rw [hc, hz, show Scalar.shli (Scf.iv 1#32 1#32 t.val) 23#32 = (BitVec.ofNat 32 (t.val + 1)) <<< 23 by
    rw [show Scf.iv 1#32 1#32 t.val = BitVec.ofNat 32 (t.val + 1) from iv_one t.val]
    exact shl23 _]
  change _ = _ + (if pw _ ≤ z then _ else _)
  unfold pw
  by_cases h : Ideal.ofBits .f32 (BitVec.ofNat 32 (t.val + 1) <<< 23) ≤ z
  · simp [h, not_lt.2 h]
    rfl
  · simp [h, not_le.1 h]
    exact BitVec.add_zero _

theorem pay9_eq (a : Vec Ideal S8x2x128 .bf16) (x : XTy) (s : STy) (c : IVec S8x128 32) (r : Fin 8) (l : Fin 128)
    (hz : k0_pay5 (F := Ideal) a (ix2 r l) = zz x s) (hc : c (ix2 r l) = cnt (zz x s) 255) :
    k0_pay9 (F := Ideal) a c (ix2 r l) = dn x s := by
  unfold k0_pay9 k0_pay8
  pointwise []
  rw [hc, hz, shl23]
  rfl

theorem pay10_eq (a : Vec Ideal S8x2x128 .bf16) (x : XTy) (s : STy) (c : IVec S8x128 32) (r : Fin 8) (l : Fin 128)
    (hz : k0_pay5 (F := Ideal) a (ix2 r l) = zz x s) (hc : c (ix2 r l) = cnt (zz x s) 255) :
    k0_pay10 (F := Ideal) a c (ix2 r l) = gs x s := by
  unfold k0_pay10 k0_pay8
  pointwise []
  rw [hc, hz, shl23]
  rfl

end Cert.KernelIdeal.Val

end
-- ==== Proof.Offsets.lean ====
/-
  Where the kernel reads its decoded scale words: the words of a tile lie in the block of a hundred and twenty-eight columns of the tile.
-/
module

public import proofs.«01_k».proof.Proof.Gen.KernelIdeal

@[expose] public section

set_option maxRecDepth 16384

noncomputable section

namespace Cert.KernelIdeal.Val

open Idealize.ShloMosaic Cert.KernelIdeal.Gen
open Cert.KernelIdeal

/-- The words of a piece of thirty-two tokens. -/
theorem k0_off4_eq : ∀ (i : grid0.Coords) (k0_t2 : Fin k0_t2_loop.trips) (k0_t3 : Fin k0_t3_loop.trips) (k0_t4 : Fin k0_t4_loop.trips) (r : Fin 2),
    k0_off4 i k0_t2 k0_t3 k0_t4 (BitVec.ofNat 32 r.val) = ![(i 1).val, 64 * k0_t3.val + 16 * k0_t4.val + 8 * r.val, 128 * ((8 * (i 2).val + k0_t2.val) / 32)] := by
  intro i k0_t2 k0_t3 k0_t4 r
  have r_r : r.val < 2 := r.isLt
  have h_c0_i32_65 : Affine.IsInt (BitVec.ofNat 32 r.val) ((r.val : Int)) := Affine.ofNat _ (by omega)
  have r_i1 : (i 1).val < 2 := (i 1).isLt
  have h_arg1 : Affine.IsInt (BitVec.ofNat 32 (i 1).val) (((i 1).val : Int)) := Affine.ofNat _ (by omega)
  have h_v179 : Affine.IsInt _ (((i 1).val : Int)) := Affine.indexCast h_arg1
  have h_c0_i32_43 : Affine.IsInt 0#32 (0) := Affine.ofNat _ (by omega)
  have h_c0_i32_38 : Affine.IsInt 0#32 (0) := Affine.ofNat _ (by omega)
  have h_c1_i32_40 : Affine.IsInt 1#32 (1) := Affine.ofNat _ (by omega)
  have r_k0_t3 : k0_t3.val < 8 := Nat.lt_of_lt_of_le k0_t3.isLt k0_t3_abs.2.1
  have h_arg15 : Affine.IsInt _ ((k0_t3.val : Int)) := Affine.iv h_c0_i32_38 h_c1_i32_40 k0_t3.val (by omega)
  have c_arg15 : (k0_t3.val : Int) ≤ 8 - 1 := Affine.iv_lt k0_t3_abs.1 k0_t3.isLt k0_t3_abs.2.2 h_arg15
  have h_c1_i32_42 : Affine.IsInt 1#32 (1) := Affine.ofNat _ (by omega)
  have h_v91 : Affine.IsInt _ ((k0_t3.val : Int)) := Affine.muli h_arg15 h_c1_i32_42 (by omega)
  have h_v92 : Affine.IsInt _ ((k0_t3.val : Int)) := Affine.addi h_c0_i32_43 h_v91 (by omega)
  have h_c8_i32_64 : Affine.IsInt 8#32 (8) := Affine.ofNat _ (by omega)
  have h_v172 : Affine.IsInt _ (8 * (k0_t3.val : Int)) := Affine.muli h_v92 h_c8_i32_64 (by omega)
  have h_c0_i32_60 : Affine.IsInt 0#32 (0) := Affine.ofNat _ (by omega)
  have h_c0_i32_44 : Affine.IsInt 0#32 (0) := Affine.ofNat _ (by omega)
  have h_c1_i32_46 : Affine.IsInt 1#32 (1) := Affine.ofNat _ (by omega)
  have r_k0_t4 : k0_t4.val < 4 := Nat.lt_of_lt_of_le k0_t4.isLt k0_t4_abs.2.1
  have h_arg17 : Affine.IsInt _ ((k0_t4.val : Int)) := Affine.iv h_c0_i32_44 h_c1_i32_46 k0_t4.val (by omega)
  have c_arg17 : (k0_t4.val : Int) ≤ 4 - 1 := Affine.iv_lt k0_t4_abs.1 k0_t4.isLt k0_t4_abs.2.2 h_arg17
  have h_c1_i32_59 : Affine.IsInt 1#32 (1) := Affine.ofNat _ (by omega)
  have h_v160 : Affine.IsInt _ ((k0_t4.val : Int)) := Affine.muli h_arg17 h_c1_i32_59 (by omega)
  have h_v161 : Affine.IsInt _ ((k0_t4.val : Int)) := Affine.addi h_c0_i32_60 h_v160 (by omega)
  have h_c2_i32 : Affine.IsInt 2#32 (2) := Affine.ofNat _ (by omega)
  have h_v173 : Affine.IsInt _ (2 * (k0_t4.val : Int)) := Affine.muli h_v161 h_c2_i32 (by omega)
  have h_v174 : Affine.IsInt _ (8 * (k0_t3.val : Int) + 2 * (k0_t4.val : Int)) := Affine.addi h_v172 h_v173 (by omega)
  have h_v175 : Affine.IsInt _ (8 * (k0_t3.val : Int) + 2 * (k0_t4.val : Int) + (r.val : Int)) := Affine.addi h_v174 h_c0_i32_65 (by omega)
  have h_c8_i32_66 : Affine.IsInt 8#32 (8) := Affine.ofNat _ (by omega)
  have h_v177 : Affine.IsInt _ (64 * (k0_t3.val : Int) + 16 * (k0_t4.val : Int) + 8 * (r.val : Int)) := Affine.muli h_v175 h_c8_i32_66 (by omega)
  have h_v180 : Affine.IsInt _ (64 * (k0_t3.val : Int) + 16 * (k0_t4.val : Int) + 8 * (r.val : Int)) := Affine.indexCast h_v177
  have r_i2 : (i 2).val < 28 := (i 2).isLt
  have h_arg2 : Affine.IsInt (BitVec.ofNat 32 (i 2).val) (((i 2).val : Int)) := Affine.ofNat _ (by omega)
  have h_c8_i32_23 : Affine.IsInt 8#32 (8) := Affine.ofNat _ (by omega)
  have h_v55 : Affine.IsInt _ (8 * ((i 2).val : Int)) := Affine.muli h_arg2 h_c8_i32_23 (by omega)
  have h_c0_i32_22 : Affine.IsInt 0#32 (0) := Affine.ofNat _ (by omega)
  have h_c0_i32_16 : Affine.IsInt 0#32 (0) := Affine.ofNat _ (by omega)
  have h_c1_i32_17 : Affine.IsInt 1#32 (1) := Affine.ofNat _ (by omega)
  have r_k0_t2 : k0_t2.val < 8 := Nat.lt_of_lt_of_le k0_t2.isLt k0_t2_abs.2.1
  have h_arg13 : Affine.IsInt _ ((k0_t2.val : Int)) := Affine.iv h_c0_i32_16 h_c1_i32_17 k0_t2.val (by omega)
  have c_arg13 : (k0_t2.val : Int) ≤ 8 - 1 := Affine.iv_lt k0_t2_abs.1 k0_t2.isLt k0_t2_abs.2.2 h_arg13
  have h_c1_i32_21 : Affine.IsInt 1#32 (1) := Affine.ofNat _ (by omega)
  have h_v51 : Affine.IsInt _ ((k0_t2.val : Int)) := Affine.muli h_arg13 h_c1_i32_21 (by omega)
  have h_v52 : Affine.IsInt _ ((k0_t2.val : Int)) := Affine.addi h_c0_i32_22 h_v51 (by omega)
  have h_v56 : Affine.IsInt _ (8 * ((i 2).val : Int) + (k0_t2.val : Int)) := Affine.addi h_v55 h_v52 (by omega)
  have h_c0_i32_25 : Affine.IsInt 0#32 (0) := Affine.ofNat _ (by omega)
  rcases (show 8 * ((i 2).val : Int) + (k0_t2.val : Int) ≤ 0 ∨ 1 ≤ 8 * ((i 2).val : Int) + (k0_t2.val : Int) by omega) with hs | hs
  · have h_v58 : Affine.Fails _ := Affine.sgt_fails h_v56 h_c0_i32_25 (by omega)
    have h_v59 : Affine.IsInt _ (0) := Affine.extui_fails h_v58 (by omega)
    have h_c0_i32_26 : Affine.IsInt 0#32 (0) := Affine.ofNat _ (by omega)
    have h_v60 : Affine.Fails _ := Affine.slt_fails h_v56 h_c0_i32_26 (by omega)
    have h_v61 : Affine.IsInt _ (0) := Affine.extui_fails h_v60 (by omega)
    have h_v62 : Affine.IsInt _ (0) := Affine.subi h_v59 h_v61 (by omega)
    have h_c32_i32_24 : Affine.IsInt 32#32 (32) := Affine.ofNat _ (by omega)
    have h_c0_i32_27 : Affine.IsInt 0#32 (0) := Affine.ofNat _ (by omega)
    have h_v63 : Affine.Holds _ := Affine.sgt_holds h_c32_i32_24 h_c0_i32_27 (by omega)
    have h_v64 : Affine.IsInt _ (1) := Affine.extui_holds h_v63 (by omega)
    have h_c0_i32_28 : Affine.IsInt 0#32 (0) := Affine.ofNat _ (by omega)
    have h_v65 : Affine.Fails _ := Affine.slt_fails h_c32_i32_24 h_c0_i32_28 (by omega)
    have h_v66 : Affine.IsInt _ (0) := Affine.extui_fails h_v65 (by omega)
    have h_v67 : Affine.IsInt _ (1) := Affine.subi h_v64 h_v66 (by omega)
    have h_v68 : Affine.Holds _ := Affine.ne_holds h_v62 h_v67 (by omega)
    have h_v69 : Affine.IsInt _ (8 * ((i 2).val : Int) + (k0_t2.val : Int)) := Affine.remsi h_v56 h_c32_i32_24 (by omega)
    have h_c0_i32_29 : Affine.IsInt 0#32 (0) := Affine.ofNat _ (by omega)
    have h_v70 : Affine.Fails _ := Affine.ne_fails h_v69 h_c0_i32_29 (by omega)
    have h_v71 : Affine.Fails _ := Affine.andi_fails_right (Affine.tH h_v68) h_v70
    have h_v57 : Affine.IsInt _ (((8 * ((i 2).val : Int) + (k0_t2.val : Int)) / 32)) := Affine.divsi h_v56 h_c32_i32_24 (by omega)
    have h_c1_i32_30 : Affine.IsInt 1#32 (1) := Affine.ofNat _ (by omega)
    have h_v72 : Affine.IsInt _ (((8 * ((i 2).val : Int) + (k0_t2.val : Int)) / 32) - 1) := Affine.subi h_v57 h_c1_i32_30 (by omega)
    have h_v73 : Affine.IsInt _ (((8 * ((i 2).val : Int) + (k0_t2.val : Int)) / 32)) := Affine.select_fails h_v71 h_v72 h_v57 (by omega)
    have h_c128_i32_31 : Affine.IsInt 128#32 (128) := Affine.ofNat _ (by omega)
    have h_v74 : Affine.IsInt _ (128 * ((8 * ((i 2).val : Int) + (k0_t2.val : Int)) / 32)) := Affine.muli h_v73 h_c128_i32_31 (by omega)
    have h_v181 : Affine.IsInt _ (128 * ((8 * ((i 2).val : Int) + (k0_t2.val : Int)) / 32)) := Affine.indexCast h_v74
    exact Affine.vec_cons h_v179 (by omega) <| Affine.vec_cons h_v180 (by omega) <| Affine.vec_cons h_v181 (by omega) <| Affine.vec_nil
  · have h_v58 : Affine.Holds _ := Affine.sgt_holds h_v56 h_c0_i32_25 (by omega)
    have h_v59 : Affine.IsInt _ (1) := Affine.extui_holds h_v58 (by omega)
    have h_c0_i32_26 : Affine.IsInt 0#32 (0) := Affine.ofNat _ (by omega)
    have h_v60 : Affine.Fails _ := Affine.slt_fails h_v56 h_c0_i32_26 (by omega)
    have h_v61 : Affine.IsInt _ (0) := Affine.extui_fails h_v60 (by omega)
    have h_v62 : Affine.IsInt _ (1) := Affine.subi h_v59 h_v61 (by omega)
    have h_c32_i32_24 : Affine.IsInt 32#32 (32) := Affine.ofNat _ (by omega)
    have h_c0_i32_27 : Affine.IsInt 0#32 (0) := Affine.ofNat _ (by omega)
    have h_v63 : Affine.Holds _ := Affine.sgt_holds h_c32_i32_24 h_c0_i32_27 (by omega)
    have h_v64 : Affine.IsInt _ (1) := Affine.extui_holds h_v63 (by omega)
    have h_c0_i32_28 : Affine.IsInt 0#32 (0) := Affine.ofNat _ (by omega)
    have h_v65 : Affine.Fails _ := Affine.slt_fails h_c32_i32_24 h_c0_i32_28 (by omega)
    have h_v66 : Affine.IsInt _ (0) := Affine.extui_fails h_v65 (by omega)
    have h_v67 : Affine.IsInt _ (1) := Affine.subi h_v64 h_v66 (by omega)
    have h_v68 : Affine.Fails _ := Affine.ne_fails h_v62 h_v67 (by omega)
    have h_v69 : Affine.IsInt _ (((8 * ((i 2).val : Int) + (k0_t2.val : Int)) % 32)) := Affine.remsi h_v56 h_c32_i32_24 (by omega)
    have h_c0_i32_29 : Affine.IsInt 0#32 (0) := Affine.ofNat _ (by omega)
    have h_v70 : Affine.Term _ := Affine.cmpi_term .ne h_v69 h_c0_i32_29
    have h_v71 : Affine.Fails _ := Affine.andi_fails_left h_v68 h_v70
    have h_v57 : Affine.IsInt _ (((8 * ((i 2).val : Int) + (k0_t2.val : Int)) / 32)) := Affine.divsi h_v56 h_c32_i32_24 (by omega)
    have h_c1_i32_30 : Affine.IsInt 1#32 (1) := Affine.ofNat _ (by omega)
    have h_v72 : Affine.IsInt _ (((8 * ((i 2).val : Int) + (k0_t2.val : Int)) / 32) - 1) := Affine.subi h_v57 h_c1_i32_30 (by omega)
    have h_v73 : Affine.IsInt _ (((8 * ((i 2).val : Int) + (k0_t2.val : Int)) / 32)) := Affine.select_fails h_v71 h_v72 h_v57 (by omega)
    have h_c128_i32_31 : Affine.IsInt 128#32 (128) := Affine.ofNat _ (by omega)
    have h_v74 : Affine.IsInt _ (128 * ((8 * ((i 2).val : Int) + (k0_t2.val : Int)) / 32)) := Affine.muli h_v73 h_c128_i32_31 (by omega)
    have h_v181 : Affine.IsInt _ (128 * ((8 * ((i 2).val : Int) + (k0_t2.val : Int)) / 32)) := Affine.indexCast h_v74
    exact Affine.vec_cons h_v179 (by omega) <| Affine.vec_cons h_v180 (by omega) <| Affine.vec_cons h_v181 (by omega) <| Affine.vec_nil

/-- The words of half a piece of a span of two hundred and fifty-six tokens. -/
theorem k0_off19_eq : ∀ (i : grid0.Coords) (k0_t6 : Fin k0_t6_loop.trips) (k0_t7 : Fin k0_t7_loop.trips) (r₁ : Fin 8) (r₂ : Fin 2),
    k0_off19 i k0_t6 k0_t7 (BitVec.ofNat 32 (2 * r₁.val)) (BitVec.ofNat 32 r₂.val) = ![(i 1).val, 128 * k0_t7.val + 16 * r₁.val + 8 * r₂.val, 128 * ((8 * (i 2).val + k0_t6.val) / 32)] := by
  intro i k0_t6 k0_t7 r₁ r₂
  have r_r₁ : r₁.val < 8 := r₁.isLt
  have h_c0_i32_67 : Affine.IsInt (BitVec.ofNat 32 (2 * r₁.val)) (2 * (r₁.val : Int)) := Affine.ofNat _ (by omega)
  have r_r₂ : r₂.val < 2 := r₂.isLt
  have h_c0_i32_68 : Affine.IsInt (BitVec.ofNat 32 r₂.val) ((r₂.val : Int)) := Affine.ofNat _ (by omega)
  have r_i1 : (i 1).val < 2 := (i 1).isLt
  have h_arg1 : Affine.IsInt (BitVec.ofNat 32 (i 1).val) (((i 1).val : Int)) := Affine.ofNat _ (by omega)
  have h_v166 : Affine.IsInt _ (((i 1).val : Int)) := Affine.indexCast h_arg1
  have h_c0_i32_64 : Affine.IsInt 0#32 (0) := Affine.ofNat _ (by omega)
  have h_c0_i32_59 : Affine.IsInt 0#32 (0) := Affine.ofNat _ (by omega)
  have h_c1_i32_61 : Affine.IsInt 1#32 (1) := Affine.ofNat _ (by omega)
  have r_k0_t7 : k0_t7.val < 4 := Nat.lt_of_lt_of_le k0_t7.isLt k0_t7_abs.2.1
  have h_arg14 : Affine.IsInt _ ((k0_t7.val : Int)) := Affine.iv h_c0_i32_59 h_c1_i32_61 k0_t7.val (by omega)
  have c_arg14 : (k0_t7.val : Int) ≤ 4 - 1 := Affine.iv_lt k0_t7_abs.1 k0_t7.isLt k0_t7_abs.2.2 h_arg14
  have h_c1_i32_63 : Affine.IsInt 1#32 (1) := Affine.ofNat _ (by omega)
  have h_v150 : Affine.IsInt _ ((k0_t7.val : Int)) := Affine.muli h_arg14 h_c1_i32_63 (by omega)
  have h_v151 : Affine.IsInt _ ((k0_t7.val : Int)) := Affine.addi h_c0_i32_64 h_v150 (by omega)
  have h_c16_i32 : Affine.IsInt 16#32 (16) := Affine.ofNat _ (by omega)
  have h_v160 : Affine.IsInt _ (16 * (k0_t7.val : Int)) := Affine.muli h_v151 h_c16_i32 (by omega)
  have h_v161 : Affine.IsInt _ (16 * (k0_t7.val : Int) + 2 * (r₁.val : Int)) := Affine.addi h_v160 h_c0_i32_67 (by omega)
  have h_v162 : Affine.IsInt _ (16 * (k0_t7.val : Int) + 2 * (r₁.val : Int) + (r₂.val : Int)) := Affine.addi h_v161 h_c0_i32_68 (by omega)
  have h_c8_i32_69 : Affine.IsInt 8#32 (8) := Affine.ofNat _ (by omega)
  have h_v164 : Affine.IsInt _ (128 * (k0_t7.val : Int) + 16 * (r₁.val : Int) + 8 * (r₂.val : Int)) := Affine.muli h_v162 h_c8_i32_69 (by omega)
  have h_v167 : Affine.IsInt _ (128 * (k0_t7.val : Int) + 16 * (r₁.val : Int) + 8 * (r₂.val : Int)) := Affine.indexCast h_v164
  have r_i2 : (i 2).val < 28 := (i 2).isLt
  have h_arg2 : Affine.IsInt (BitVec.ofNat 32 (i 2).val) (((i 2).val : Int)) := Affine.ofNat _ (by omega)
  have h_c8_i32_44 : Affine.IsInt 8#32 (8) := Affine.ofNat _ (by omega)
  have h_v115 : Affine.IsInt _ (8 * ((i 2).val : Int)) := Affine.muli h_arg2 h_c8_i32_44 (by omega)
  have h_c0_i32_31 : Affine.IsInt 0#32 (0) := Affine.ofNat _ (by omega)
  have h_c0_i32_27 : Affine.IsInt 0#32 (0) := Affine.ofNat _ (by omega)
  have h_c1_i32_28 : Affine.IsInt 1#32 (1) := Affine.ofNat _ (by omega)
  have r_k0_t6 : k0_t6.val < 8 := Nat.lt_of_lt_of_le k0_t6.isLt k0_t6_abs.2.1
  have h_arg13 : Affine.IsInt _ ((k0_t6.val : Int)) := Affine.iv h_c0_i32_27 h_c1_i32_28 k0_t6.val (by omega)
  have c_arg13 : (k0_t6.val : Int) ≤ 8 - 1 := Affine.iv_lt k0_t6_abs.1 k0_t6.isLt k0_t6_abs.2.2 h_arg13
  have h_c1_i32_30 : Affine.IsInt 1#32 (1) := Affine.ofNat _ (by omega)
  have h_v75 : Affine.IsInt _ ((k0_t6.val : Int)) := Affine.muli h_arg13 h_c1_i32_30 (by omega)
  have h_v76 : Affine.IsInt _ ((k0_t6.val : Int)) := Affine.addi h_c0_i32_31 h_v75 (by omega)
  have h_v116 : Affine.IsInt _ (8 * ((i 2).val : Int) + (k0_t6.val : Int)) := Affine.addi h_v115 h_v76 (by omega)
  have h_c0_i32_46 : Affine.IsInt 0#32 (0) := Affine.ofNat _ (by omega)
  rcases (show 8 * ((i 2).val : Int) + (k0_t6.val : Int) ≤ 0 ∨ 1 ≤ 8 * ((i 2).val : Int) + (k0_t6.val : Int) by omega) with hs | hs
  · have h_v118 : Affine.Fails _ := Affine.sgt_fails h_v116 h_c0_i32_46 (by omega)
    have h_v119 : Affine.IsInt _ (0) := Affine.extui_fails h_v118 (by omega)
    have h_c0_i32_47 : Affine.IsInt 0#32 (0) := Affine.ofNat _ (by omega)
    have h_v120 : Affine.Fails _ := Affine.slt_fails h_v116 h_c0_i32_47 (by omega)
    have h_v121 : Affine.IsInt _ (0) := Affine.extui_fails h_v120 (by omega)
    have h_v122 : Affine.IsInt _ (0) := Affine.subi h_v119 h_v121 (by omega)
    have h_c32_i32_45 : Affine.IsInt 32#32 (32) := Affine.ofNat _ (by omega)
    have h_c0_i32_48 : Affine.IsInt 0#32 (0) := Affine.ofNat _ (by omega)
    have h_v123 : Affine.Holds _ := Affine.sgt_holds h_c32_i32_45 h_c0_i32_48 (by omega)
    have h_v124 : Affine.IsInt _ (1) := Affine.extui_holds h_v123 (by omega)
    have h_c0_i32_49 : Affine.IsInt 0#32 (0) := Affine.ofNat _ (by omega)
    have h_v125 : Affine.Fails _ := Affine.slt_fails h_c32_i32_45 h_c0_i32_49 (by omega)
    have h_v126 : Affine.IsInt _ (0) := Affine.extui_fails h_v125 (by omega)
    have h_v127 : Affine.IsInt _ (1) := Affine.subi h_v124 h_v126 (by omega)
    have h_v128 : Affine.Holds _ := Affine.ne_holds h_v122 h_v127 (by omega)
    have h_v129 : Affine.IsInt _ (8 * ((i 2).val : Int) + (k0_t6.val : Int)) := Affine.remsi h_v116 h_c32_i32_45 (by omega)
    have h_c0_i32_50 : Affine.IsInt 0#32 (0) := Affine.ofNat _ (by omega)
    have h_v130 : Affine.Fails _ := Affine.ne_fails h_v129 h_c0_i32_50 (by omega)
    have h_v131 : Affine.Fails _ := Affine.andi_fails_right (Affine.tH h_v128) h_v130
    have h_v117 : Affine.IsInt _ (((8 * ((i 2).val : Int) + (k0_t6.val : Int)) / 32)) := Affine.divsi h_v116 h_c32_i32_45 (by omega)
    have h_c1_i32_51 : Affine.IsInt 1#32 (1) := Affine.ofNat _ (by omega)
    have h_v132 : Affine.IsInt _ (((8 * ((i 2).val : Int) + (k0_t6.val : Int)) / 32) - 1) := Affine.subi h_v117 h_c1_i32_51 (by omega)
    have h_v133 : Affine.IsInt _ (((8 * ((i 2).val : Int) + (k0_t6.val : Int)) / 32)) := Affine.select_fails h_v131 h_v132 h_v117 (by omega)
    have h_c128_i32_52 : Affine.IsInt 128#32 (128) := Affine.ofNat _ (by omega)
    have h_v134 : Affine.IsInt _ (128 * ((8 * ((i 2).val : Int) + (k0_t6.val : Int)) / 32)) := Affine.muli h_v133 h_c128_i32_52 (by omega)
    have h_v168 : Affine.IsInt _ (128 * ((8 * ((i 2).val : Int) + (k0_t6.val : Int)) / 32)) := Affine.indexCast h_v134
    exact Affine.vec_cons h_v166 (by omega) <| Affine.vec_cons h_v167 (by omega) <| Affine.vec_cons h_v168 (by omega) <| Affine.vec_nil
  · have h_v118 : Affine.Holds _ := Affine.sgt_holds h_v116 h_c0_i32_46 (by omega)
    have h_v119 : Affine.IsInt _ (1) := Affine.extui_holds h_v118 (by omega)
    have h_c0_i32_47 : Affine.IsInt 0#32 (0) := Affine.ofNat _ (by omega)
    have h_v120 : Affine.Fails _ := Affine.slt_fails h_v116 h_c0_i32_47 (by omega)
    have h_v121 : Affine.IsInt _ (0) := Affine.extui_fails h_v120 (by omega)
    have h_v122 : Affine.IsInt _ (1) := Affine.subi h_v119 h_v121 (by omega)
    have h_c32_i32_45 : Affine.IsInt 32#32 (32) := Affine.ofNat _ (by omega)
    have h_c0_i32_48 : Affine.IsInt 0#32 (0) := Affine.ofNat _ (by omega)
    have h_v123 : Affine.Holds _ := Affine.sgt_holds h_c32_i32_45 h_c0_i32_48 (by omega)
    have h_v124 : Affine.IsInt _ (1) := Affine.extui_holds h_v123 (by omega)
    have h_c0_i32_49 : Affine.IsInt 0#32 (0) := Affine.ofNat _ (by omega)
    have h_v125 : Affine.Fails _ := Affine.slt_fails h_c32_i32_45 h_c0_i32_49 (by omega)
    have h_v126 : Affine.IsInt _ (0) := Affine.extui_fails h_v125 (by omega)
    have h_v127 : Affine.IsInt _ (1) := Affine.subi h_v124 h_v126 (by omega)
    have h_v128 : Affine.Fails _ := Affine.ne_fails h_v122 h_v127 (by omega)
    have h_v129 : Affine.IsInt _ (((8 * ((i 2).val : Int) + (k0_t6.val : Int)) % 32)) := Affine.remsi h_v116 h_c32_i32_45 (by omega)
    have h_c0_i32_50 : Affine.IsInt 0#32 (0) := Affine.ofNat _ (by omega)
    have h_v130 : Affine.Term _ := Affine.cmpi_term .ne h_v129 h_c0_i32_50
    have h_v131 : Affine.Fails _ := Affine.andi_fails_left h_v128 h_v130
    have h_v117 : Affine.IsInt _ (((8 * ((i 2).val : Int) + (k0_t6.val : Int)) / 32)) := Affine.divsi h_v116 h_c32_i32_45 (by omega)
    have h_c1_i32_51 : Affine.IsInt 1#32 (1) := Affine.ofNat _ (by omega)
    have h_v132 : Affine.IsInt _ (((8 * ((i 2).val : Int) + (k0_t6.val : Int)) / 32) - 1) := Affine.subi h_v117 h_c1_i32_51 (by omega)
    have h_v133 : Affine.IsInt _ (((8 * ((i 2).val : Int) + (k0_t6.val : Int)) / 32)) := Affine.select_fails h_v131 h_v132 h_v117 (by omega)
    have h_c128_i32_52 : Affine.IsInt 128#32 (128) := Affine.ofNat _ (by omega)
    have h_v134 : Affine.IsInt _ (128 * ((8 * ((i 2).val : Int) + (k0_t6.val : Int)) / 32)) := Affine.muli h_v133 h_c128_i32_52 (by omega)
    have h_v168 : Affine.IsInt _ (128 * ((8 * ((i 2).val : Int) + (k0_t6.val : Int)) / 32)) := Affine.indexCast h_v134
    exact Affine.vec_cons h_v166 (by omega) <| Affine.vec_cons h_v167 (by omega) <| Affine.vec_cons h_v168 (by omega) <| Affine.vec_nil

end Cert.KernelIdeal.Val

end
-- ==== Proof.PhaseZero.lean ====
/-
  The first phase: the decoded words, the magnitudes of a piece, the largest of a group.
-/
module

public import proofs.«01_k».proof.Proof.PayZero
public import proofs.«01_k».proof.Proof.Offsets
public import proofs.«01_k».proof.Proof.Gen.KernelIdeal.Loops
public import Idealize.ShloMosaic.Lib.Tactic
public import Idealize.ShloMosaic.Lib.WritesUnit
public import Idealize.ShloMosaic.Lib.Pipeline.ValueKit.Tiles

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (x : XTy) (s : STy)

/-- The block of the elements at a batch and a block of channels. -/
def IsX (b j : ℕ) (X : S1x1024x1024.Idx → EReal) : Prop :=
  ∀ t c, X (ix3 0 t c) = rd3 0 x b t.val (1024 * j + c.val)

/-- The scale words of the first `n` rows of the two batches are decoded. -/
def IsW (n : ℕ) (Y : S2x512x896.Idx → BitVec 32) : Prop :=
  ∀ b r k, b.val * 512 + r.val < n → Y (ix3 b r k) = word (rd3 0 s b.val (2 * r.val) k.val) (rd3 0 s b.val (2 * r.val + 1) k.val)

/-- The first `n` rows of a span hold the magnitudes of their tokens. -/
def IsM (b j t p n : ℕ) (Y : S8x8x64x2x128.Idx → EReal) : Prop :=
  ∀ t' p' ρ q l, t'.val = t → p'.val = p → ρ.val < n → Y (ix5 t' p' ρ q l) = av (vn x s b (128 * p + 2 * ρ.val + q.val) (1024 * j + 128 * t + l.val))

/-- A load through a block reads the array at the block's place. -/
theorem readAt_of {sg : RefSig} {κ : Kind} {sp : Space} {S : Shape} {e : EltTy} (v : View sg κ sp S e) (f : v.ty.Contents (Elt Ideal))
    {off off' size : Fin S.rank → ℕ} (inb : ∀ a, off a + size a ≤ S.size a) (h : off = off') (y : (Rect.unit off size inb).shape.Idx) (i : S.Idx)
    (hi : ∀ a, (i a).val = off' a + (y a).val) : v.readAt (Elt Ideal) (Rect.unit off size inb).toLoadRect f y = v.read (Elt Ideal) f i := by
  subst h
  rw [View.readAt_apply]
  congr 1
  funext a
  refine Fin.ext ?_
  rw [hi a]
  exact Rect.idx_unit_val off size inb y a

theorem fin3 {P : Fin 3 → Prop} (h0 : P 0) (h1 : P 1) (h2 : P 2) : ∀ a, P a := by
  intro a; fin_cases a <;> assumption
theorem fin5 {P : Fin 5 → Prop} (h0 : P 0) (h1 : P 1) (h2 : P 2) (h3 : P 3) (h4 : P 4) : ∀ a, P a := by
  intro a; fin_cases a <;> assumption

theorem pw_nonneg (n : ℕ) (hn : n < 256) : 0 ≤ pw (BitVec.ofNat 32 n) := by
  rw [pw_eq n hn]
  split
  · exact le_top
  · split
    · exact le_refl _
    · exact EReal.coe_nonneg.2 (by positivity)

theorem av_mul (v : EReal) {w : EReal} (hw : 0 ≤ w) : av v * w = av (v * w) := by
  unfold av
  rw [← EReal.neg_mul]
  exact (monotone_mul_right_of_nonneg hw).map_max

theorem sc_nonneg (b t c : ℕ) : 0 ≤ sc s b t c := by
  unfold sc
  rw [show ((rd3 0 s b t (c / 32)).setWidth 32) = BitVec.ofNat 32 (rd3 0 s b t (c / 32)).toNat by
    refine BitVec.eq_of_toNat_eq ?_
    simp]
  exact pw_nonneg _ (rd3 0 s b t (c / 32)).isLt

/-- A magnitude times the power of two gathered for it. -/
theorem elem (b t c : ℕ) (v : EReal) (w : BitVec 32) (q : ℕ) (hq : q < 2) (hv : v = rd3 0 x b (2 * t + q) c)
    (hw : w = word (rd3 0 s b (2 * t) (c / 32)) (rd3 0 s b (2 * t + 1) (c / 32))) :
    av v * Ideal.ofBits .bf16 (BitVec.extractLsb' (16 * q) 16 w) = av (vn x s b (2 * t + q) c) := by
  rw [hw, word_half _ _ q hq, half_val, hv]
  have e : pw ((if q = 0 then rd3 0 s b (2 * t) (c / 32) else rd3 0 s b (2 * t + 1) (c / 32)).setWidth 32) = sc s b (2 * t + q) c := by
    unfold sc
    interval_cases q <;> rfl
  rw [e, av_mul _ (sc_nonneg s b _ c)]
  rfl

abbrev inv_t4 (c : Dev nD) (i : grid0.Coords) (k0_t2 k0_t3 : ℕ) (arg3 : Memref sig .tc .vmem S1x1024x1024 .fp8e4m3) (arg8 : Memref sig .tc .vmem S2x512x896 .i32) (arg11 : Memref sig .tc .vmem S8x8x64x2x128 .bf16) (X_arg3 : BufTy.Contents (Elt Ideal) arg3.view.ty) (X_arg8 : BufTy.Contents (Elt Ideal) arg8.view.ty) (k : ℕ) : sProp 𝕄 :=
  iprop((arg3.view.loc (c : Thread nD τ) ↦[arg3.view.set]{fullShare} X_arg3) ∗ (arg8.view.loc (c : Thread nD τ) ↦[arg8.view.set]{fullShare} X_arg8) ∗ (∃ f, (arg11.view.loc (c : Thread nD τ) ↦[arg11.view.set]{fullShare} f) ∗ ⌜IsM x s (i 1).val (i 2).val k0_t2 k0_t3 (16 * k) (arg11.view.read (Elt Ideal) f)⌝))

/-- The columns the lanes gather their words from. -/
def IsCol (j t : ℕ) (v : IVec S8x128 32) : Prop := ∀ r l, (col (v (ix2 r l))).val = (8 * j + t) % 32 * 4 + l.val / 32

/-- An element of half a piece. -/
theorem piece (i : grid0.Coords) (arg3 : Memref sig .tc .vmem S1x1024x1024 .fp8e4m3) (arg8 : Memref sig .tc .vmem S2x512x896 .i32) (k0_t2 : Fin k0_t2_loop.trips) (k0_t3 : Fin k0_t3_loop.trips) (k : Fin k0_t4_loop.trips)
    (v88 : IVec S8x128 32) (X_arg3 : BufTy.Contents (Elt Ideal) arg3.view.ty) (X_arg8 : BufTy.Contents (Elt Ideal) arg8.view.ty)
    (hX : IsX x (i 1).val (i 2).val (arg3.view.read (Elt Ideal) X_arg3)) (hW : IsW s ((i 1).val * 512 + 512) (arg8.view.read (Elt Ideal) X_arg8))
    (hC : IsCol (i 2).val k0_t2.val v88) (r : Fin 2) (inb3) (inb4) (ρ : Fin 8) (q : Fin 2) (l : Fin 128) (tk : Fin 32) (htk : tk.val = 16 * r.val + (2 * ρ.val + q.val)) :
    av (arg3.view.readAt (Elt Ideal) (Rect.unit (s := S1x1024x1024) (k0_off3 k0_t2 k0_t3 k) S1x32x128.size inb3).toLoadRect X_arg3 (ix3 0 tk l))
      * Ideal.ofBits .bf16 (BitVec.extractLsb' (16 * q.val) 16
          (arg8.view.readAt (Elt Ideal) (Rect.unit (s := S2x512x896) (k0_off4 i k0_t2 k0_t3 k (BitVec.ofNat 32 r.val)) S1x8x128.size inb4).toLoadRect X_arg8 (ix3 0 ρ (col (v88 (ix2 ρ l))))))
      = av (vn x s (i 1).val (2 * (64 * k0_t3.val + 16 * k.val + 8 * r.val + ρ.val) + q.val) (1024 * (i 2).val + 128 * k0_t2.val + l.val)) := by
  have g1 : (i 1).val < 2 := (i 1).isLt
  have g2 : (i 2).val < 28 := (i 2).isLt
  have h2 : k0_t2.val < 8 := Nat.lt_of_lt_of_le k0_t2.isLt k0_t2_abs.2.1
  have h3 : k0_t3.val < 8 := Nat.lt_of_lt_of_le k0_t3.isLt k0_t3_abs.2.1
  have h4 : k.val < 4 := Nat.lt_of_lt_of_le k.isLt k0_t4_abs.2.1
  have hr := r.isLt
  have hρ := ρ.isLt
  have hq := q.isLt
  have hl := l.isLt
  have ht := tk.isLt
  have hcol := hC ρ l
  refine elem x s (i 1).val (64 * k0_t3.val + 16 * k.val + 8 * r.val + ρ.val) (1024 * (i 2).val + 128 * k0_t2.val + l.val) _ _ q.val hq ?_ ?_
  · rw [readAt_of _ _ _ (k0_off3_eq k0_t2 k0_t3 k) _ (ix3 0 ⟨128 * k0_t3.val + 32 * k.val + tk.val, by omega⟩ ⟨128 * k0_t2.val + l.val, by omega⟩) (fin3 rfl rfl rfl), hX]
    congr 1
    · show 128 * k0_t3.val + 32 * k.val + tk.val = _; omega
    · show 1024 * (i 2).val + (128 * k0_t2.val + l.val) = _; omega
  · have e : (1024 * (i 2).val + 128 * k0_t2.val + l.val) / 32 = 128 * ((8 * (i 2).val + k0_t2.val) / 32) + (col (v88 (ix2 ρ l))).val := by omega
    have hc : (col (v88 (ix2 ρ l))).val < 128 := (col (v88 (ix2 ρ l))).isLt
    have b1 : 64 * k0_t3.val + 16 * k.val + 8 * r.val + ρ.val < 512 := by omega
    have b2 : 128 * ((8 * (i 2).val + k0_t2.val) / 32) + (col (v88 (ix2 ρ l))).val < 896 := by omega
    refine (readAt_of _ _ _ (k0_off4_eq i k0_t2 k0_t3 k r) _ (ix3 ⟨(i 1).val, g1⟩ ⟨_, b1⟩ ⟨_, b2⟩) (fin3 rfl rfl rfl)).trans ?_
    rw [hW _ _ _ (by show (i 1).val * 512 + (64 * k0_t3.val + 16 * k.val + 8 * r.val + ρ.val) < _; omega), e]

set_option warn.classDefReducibility false in
/-- The pieces of a span. -/
@[sl_loop] def val_t4 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole) (arg1 : BitVec 32) (k0_h3 : k0_cond3 i = 1#1) (k0_t2 : Fin k0_t2_loop.trips) (v52 : BitVec 32) (v54 : BitVec 32) (v75 : BitVec 32) (v88 : IVec S8x128 32) (k0_t3 : Fin k0_t3_loop.trips) (v92 : BitVec 32) (X_arg3 : BufTy.Contents (Elt Ideal) arg3.view.ty) (X_arg8 : BufTy.Contents (Elt Ideal) arg8.view.ty)
    (hX : IsX x (i 1).val (i 2).val (arg3.view.read (Elt Ideal) X_arg3)) (hW : IsW s ((i 1).val * 512 + 512) (arg8.view.read (Elt Ideal) X_arg8))
    (hC : IsCol (i 2).val k0_t2.val v88) :
    LoopInvTy_k0_t4 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg1 k0_h3 k0_t2 v52 v54 v75 v88 0#32 1#32 k0_t3 v92 where
  inv k _ := inv_t4 x s c i k0_t2.val k0_t3.val arg3 arg8 arg11 X_arg3 X_arg8 k
  step k acc := by
    unfold k0_t4_body
    iintro ⟨HR_arg3, HR_arg8, ⟨%f_arg11, HW_arg11, %hM⟩⟩
    sl_exec
    sl_step
    isplitl [HR_arg3]; · iexact HR_arg3
    isplitl [HR_arg8]; · iexact HR_arg8
    iexists _; isplitl [HW_arg11]; · iexact HW_arg11
    ipureintro
    have g1 : (i 1).val < 2 := (i 1).isLt
    have g2 : (i 2).val < 28 := (i 2).isLt
    have h2 : k0_t2.val < 8 := Nat.lt_of_lt_of_le k0_t2.isLt k0_t2_abs.2.1
    have h3 : k0_t3.val < 8 := Nat.lt_of_lt_of_le k0_t3.isLt k0_t3_abs.2.1
    have h4 : k.val < 4 := Nat.lt_of_lt_of_le k.isLt k0_t4_abs.2.1
    have o0 : k0_off5 k0_t2 k0_t3 k 0#32 = ![k0_t2.val, k0_t3.val, 16 * k.val, 0, 0] := k0_off5_eq k0_t2 k0_t3 k 0
    have o1 : k0_off5 k0_t2 k0_t3 k 1#32 = ![k0_t2.val, k0_t3.val, 16 * k.val + 8, 0, 0] := k0_off5_eq k0_t2 k0_t3 k 1
    intro t' p' ρ q l ht hp hρ
    have hl := l.isLt
    have hq := q.isLt
    rcases (show ρ.val < 16 * k.val ∨ (16 * k.val ≤ ρ.val ∧ ρ.val < 16 * k.val + 8) ∨ (16 * k.val + 8 ≤ ρ.val ∧ ρ.val < 16 * k.val + 16) by omega) with h | ⟨h, h'⟩ | ⟨h, h'⟩
    · refine (View.read_writes_cons_unit_of_not_mem _ _ _ _ _ _ o1 2 (.inl (by show ρ.val < 16 * k.val + 8; omega))).trans ?_
      refine (View.read_writes_cons_unit_of_not_mem _ _ _ _ _ _ o0 2 (.inl (by show ρ.val < 16 * k.val; omega))).trans ?_
      exact hM t' p' ρ q l ht hp h
    · refine (View.read_writes_cons_unit_of_not_mem _ _ _ _ _ _ o1 2 (.inl (by show ρ.val < 16 * k.val + 8; omega))).trans ?_
      refine (View.read_writes_cons_unit_of_mem _ _ _ _ _ _ (ix5 0 0 ⟨ρ.val - 16 * k.val, by omega⟩ q l) o0
          (fin5 (by show t'.val = k0_t2.val + 0; omega) (by show p'.val = k0_t3.val + 0; omega) (by show ρ.val = 16 * k.val + (ρ.val - 16 * k.val); omega) (by show q.val = 0 + q.val; omega) (by show l.val = 0 + l.val; omega))).trans ?_
      refine (pay14_eq _ _ _ _ _ _).trans ((piece x s i arg3 arg8 k0_t2 k0_t3 k v88 X_arg3 X_arg8 hX hW hC 0 _ _ ⟨ρ.val - 16 * k.val, by omega⟩ q l _ ?_).trans ?_)
      · show 2 * (ρ.val - 16 * k.val) + q.val = 16 * 0 + (2 * (ρ.val - 16 * k.val) + q.val); omega
      · congr 2
        show 2 * (64 * k0_t3.val + 16 * k.val + 8 * 0 + (ρ.val - 16 * k.val)) + q.val = _
        omega
    · refine (View.read_writes_cons_unit_of_mem _ _ _ _ _ _ (ix5 0 0 ⟨ρ.val - (16 * k.val + 8), by omega⟩ q l) o1
          (fin5 (by show t'.val = k0_t2.val + 0; omega) (by show p'.val = k0_t3.val + 0; omega) (by show ρ.val = 16 * k.val + 8 + (ρ.val - (16 * k.val + 8)); omega) (by show q.val = 0 + q.val; omega) (by show l.val = 0 + l.val; omega))).trans ?_
      refine (pay17_eq _ _ _ _ _ _).trans ((piece x s i arg3 arg8 k0_t2 k0_t3 k v88 X_arg3 X_arg8 hX hW hC 1 _ _ ⟨ρ.val - (16 * k.val + 8), by omega⟩ q l _ ?_).trans ?_)
      · show 16 + (2 * (ρ.val - (16 * k.val + 8)) + q.val) = 16 * 1 + (2 * (ρ.val - (16 * k.val + 8)) + q.val); omega
      · congr 2
        show 2 * (64 * k0_t3.val + 16 * k.val + 8 * 1 + (ρ.val - (16 * k.val + 8))) + q.val = _
        omega

end Cert.KernelIdeal.Val

end
-- ==== Proof.Spans.lean ====
/-
  The first phase, span by span: the largest magnitudes of the groups and of each lane.
-/
module

public import proofs.«01_k».proof.Proof.PhaseZero

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (x : XTy) (s : STy)

/-- The batch, block, tile and span of a step of the first phase, as one number. -/
def lin (b j t p : ℕ) : ℕ := (b * 224 + 8 * j + t) * 8 + p

/-- The groups of the first `n` steps hold their largest magnitude. -/
def IsG (n : ℕ) (Y : S2x28x64x2x1024.Idx → EReal) : Prop :=
  ∀ b j g q cl, lin b.val j.val (cl.val / 128) (g.val / 8) < n → Y (ix5 b j g q cl) = am x s b.val g.val (1024 * j.val + cl.val)

/-- The accumulator holds the largest of the first `n` steps. -/
def IsA (n : ℕ) (A : FVec Ideal S16x128 .bf16) : Prop :=
  ∀ r l y, A (ix2 r l) ≤ y ↔ 0 ≤ y ∧ ∀ m < n, am x s (m / 8 / 224) (8 * (m % 8) + r.val / 2) (128 * (m / 8 % 224) + l.val) ≤ y

/-- A strided load of a span reads the magnitudes of one token of every group. -/
theorem strided (t2 : Fin k0_t2_loop.trips) (t3 : Fin k0_t3_loop.trips) (b j : ℕ) (arg11 : Memref sig .tc .vmem S8x8x64x2x128 .bf16) (f : arg11.view.ty.Contents (Elt Ideal))
    (hM : IsM x s b j t2.val t3.val 64 (arg11.view.read (Elt Ideal) f)) {off : Fin 5 → ℕ} (k : ℕ) (hk : k < 8) (h : off = ![t2.val, t3.val, k, 0, 0]) (inb) (g : Fin 8) (q : Fin 2) (l : Fin 128) :
    arg11.view.readAt (Elt Ideal) (⟨off, S1x1x8x2x128.size, ![1, 1, 8, 1, 1], inb⟩ : LoadRect S8x8x64x2x128) f (ix5 0 0 g q l)
      = av (vn x s b (16 * (8 * t3.val + g.val) + (2 * k + q.val)) (1024 * j + 128 * t2.val + l.val)) := by
  subst h
  have h2 : t2.val < 8 := Nat.lt_of_lt_of_le t2.isLt k0_t2_abs.2.1
  have h3 : t3.val < 8 := Nat.lt_of_lt_of_le t3.isLt k0_t3_abs.2.1
  have hg := g.isLt
  have e : (⟨![t2.val, t3.val, k, 0, 0], S1x1x8x2x128.size, ![1, 1, 8, 1, 1], inb⟩ : LoadRect S8x8x64x2x128).idx (ix5 0 0 g q l)
      = ix5 ⟨t2.val, h2⟩ ⟨t3.val, h3⟩ ⟨k + 8 * g.val, by omega⟩ q l := by
    funext a
    refine Fin.ext ?_
    revert a
    refine fin5 ?_ ?_ ?_ ?_ ?_
    · show t2.val + 1 * 0 = t2.val; omega
    · show t3.val + 1 * 0 = t3.val; omega
    · show k + 8 * g.val = k + 8 * g.val; rfl
    · show 0 + 1 * q.val = q.val; omega
    · show 0 + 1 * l.val = l.val; omega
  rw [View.readAt_apply, e, hM ⟨t2.val, h2⟩ ⟨t3.val, h3⟩ ⟨k + 8 * g.val, by omega⟩ q l rfl rfl (by show k + 8 * g.val < 64; omega)]
  congr 2
  show 128 * t3.val + 2 * (k + 8 * g.val) + q.val = _
  omega

/-- The maximum of a span's strided loads is the largest magnitude of each group. -/
theorem groups (t2 : Fin k0_t2_loop.trips) (t3 : Fin k0_t3_loop.trips) (b j : ℕ) (v : Fin 8 → Vec Ideal S1x1x8x2x128 .bf16)
    (hv : ∀ k g q l, v k (ix5 0 0 g q l) = av (vn x s b (16 * (8 * t3.val + g.val) + (2 * k.val + q.val)) (1024 * j + 128 * t2.val + l.val)))
    (r : Fin 16) (l : Fin 128) :
    k0_pay20 (F := Ideal) (k0_pay18 (v 0) (v 1) (v 2) (v 3)) (v 4) (k0_pay19 (v 4)) (v 5) (v 6) (v 7) (ix2 r l)
      = am x s b (8 * t3.val + r.val / 2) (1024 * j + 128 * t2.val + l.val) := by
  refine le_antisymm ?_ ?_
  · rw [pay20_le]
    intro p
    have hp := p.isLt
    have key : ∀ k, v k (ix5 0 0 ⟨r.val / 2, by omega⟩ p l) ≤ am x s b (8 * t3.val + r.val / 2) (1024 * j + 128 * t2.val + l.val) := fun k => by
      rw [hv]
      exact (am_le x s _ _ _ _).1 le_rfl _ (by omega)
    simp only [List.forall_mem_cons]
    exact ⟨key 0, key 1, key 2, key 3, key 4, key 5, key 6, key 7, fun _ h => absurd h List.not_mem_nil⟩
  · rw [am_le]
    intro i hi
    have hh := (pay20_le (v 0) (v 1) (v 2) (v 3) (v 4) (v 5) (v 6) (v 7) r l _).1 le_rfl
    have e : ∀ k q, i = 2 * k.val + q.val → av (vn x s b (16 * (8 * t3.val + r.val / 2) + i) (1024 * j + 128 * t2.val + l.val)) = v k (ix5 0 0 ⟨r.val / 2, by omega⟩ q l) := by
      intro k q h
      rw [hv, h]
    rw [e ⟨i / 2, by omega⟩ ⟨i % 2, by omega⟩ (by show i = 2 * (i / 2) + i % 2; omega)]
    refine hh _ _ ?_
    generalize (⟨i / 2, by omega⟩ : Fin 8) = k
    fin_cases k <;> simp

abbrev inv_t3 (c : Dev nD) (n : ℕ) (arg3 : Memref sig .tc .vmem S1x1024x1024 .fp8e4m3) (arg8 : Memref sig .tc .vmem S2x512x896 .i32) (arg9 : Memref sig .tc .vmem S2x28x64x2x1024 .bf16) (arg11 : Memref sig .tc .vmem S8x8x64x2x128 .bf16) (X_arg3 : BufTy.Contents (Elt Ideal) arg3.view.ty) (X_arg8 : BufTy.Contents (Elt Ideal) arg8.view.ty) (A : FVec Ideal S16x128 .bf16) : sProp 𝕄 :=
  iprop((arg3.view.loc (c : Thread nD τ) ↦[arg3.view.set]{fullShare} X_arg3) ∗ (arg8.view.loc (c : Thread nD τ) ↦[arg8.view.set]{fullShare} X_arg8) ∗ (∃ f, (arg9.view.loc (c : Thread nD τ) ↦[arg9.view.set]{fullShare} f) ∗ ⌜IsG x s n (arg9.view.read (Elt Ideal) f)⌝) ∗ (∃ f, (arg11.view.loc (c : Thread nD τ) ↦[arg11.view.set]{fullShare} f)) ∗ ⌜IsA x s n A⌝)

/-- One more step's groups are stored. -/
theorem isG_step (i : grid0.Coords) (t2 : Fin k0_t2_loop.trips) (t3 : Fin k0_t3_loop.trips) (arg9 : Memref sig .tc .vmem S2x28x64x2x1024 .bf16) (f : arg9.view.ty.Contents (Elt Ideal))
    (m : FVec Ideal S16x128 .bf16) (hm : ∀ r l, m (ix2 r l) = am x s (i 1).val (8 * t3.val + r.val / 2) (1024 * (i 2).val + 128 * t2.val + l.val))
    (P : Vec Ideal S1x1x8x2x128 .bf16) (hp : ∀ (r : Fin 8) (q : Fin 2) (l : Fin 128), P (ix5 0 0 r q l) = m (ix2 ⟨2 * r.val + q.val, by omega⟩ l)) (inb)
    (hG : IsG x s (lin (i 1).val (i 2).val t2.val t3.val) (arg9.view.read (Elt Ideal) f)) :
    IsG x s (lin (i 1).val (i 2).val t2.val (t3.val + 1)) (arg9.view.read (Elt Ideal)
      (arg9.view.writes (Elt Ideal) f [⟨Rect.unit (s := S2x28x64x2x1024) (k0_off14 i t2 t3) S1x1x8x2x128.size inb, P⟩])) := by
  have g1 : (i 1).val < 2 := (i 1).isLt
  have g2 : (i 2).val < 28 := (i 2).isLt
  have h2 : t2.val < 8 := Nat.lt_of_lt_of_le t2.isLt k0_t2_abs.2.1
  have h3 : t3.val < 8 := Nat.lt_of_lt_of_le t3.isLt k0_t3_abs.2.1
  intro b j g q cl h
  have hb := b.isLt
  have hj := j.isLt
  have hg := g.isLt
  have hcl := cl.isLt
  have hq := q.isLt
  unfold lin at h
  by_cases hlt : lin b.val j.val (cl.val / 128) (g.val / 8) < lin (i 1).val (i 2).val t2.val t3.val
  · refine Eq.trans ?_ (hG b j g q cl hlt)
    unfold lin at hlt
    by_cases hbj : b.val = (i 1).val ∧ j.val = (i 2).val
    · by_cases hc : cl.val / 128 = t2.val
      · exact View.read_writes_cons_unit_of_not_mem _ _ _ _ _ _ (k0_off14_eq i t2 t3) 2 (.inl (by show g.val < 8 * t3.val; omega))
      · exact View.read_writes_cons_unit_of_not_mem _ _ _ _ _ _ (k0_off14_eq i t2 t3) 4 (by show cl.val < 128 * t2.val ∨ 128 * t2.val + 128 ≤ cl.val; omega)
    · by_cases hb' : b.val = (i 1).val
      · exact View.read_writes_cons_unit_of_not_mem _ _ _ _ _ _ (k0_off14_eq i t2 t3) 1 (by show j.val < (i 2).val ∨ (i 2).val + 1 ≤ j.val; omega)
      · exact View.read_writes_cons_unit_of_not_mem _ _ _ _ _ _ (k0_off14_eq i t2 t3) 0 (by show b.val < (i 1).val ∨ (i 1).val + 1 ≤ b.val; omega)
  · unfold lin at hlt
    have e1 : b.val = (i 1).val := by omega
    have e2 : j.val = (i 2).val := by omega
    have e3 : cl.val / 128 = t2.val := by omega
    have e4 : g.val / 8 = t3.val := by omega
    refine (View.read_writes_cons_unit_of_mem _ _ _ _ _ _ (ix5 0 0 ⟨g.val - 8 * t3.val, by omega⟩ q ⟨cl.val - 128 * t2.val, by omega⟩) (k0_off14_eq i t2 t3)
      (fin5 (by show b.val = (i 1).val + 0; omega) (by show j.val = (i 2).val + 0; omega) (by show g.val = 8 * t3.val + (g.val - 8 * t3.val); omega) (by show q.val = 0 + q.val; omega) (by show cl.val = 128 * t2.val + (cl.val - 128 * t2.val); omega))).trans ?_
    refine (hp _ _ _).trans ((hm _ _).trans ?_)
    rw [e1, e2]
    congr 1
    · show 8 * t3.val + (2 * (g.val - 8 * t3.val) + q.val) / 2 = g.val; omega
    · show 1024 * (i 2).val + 128 * t2.val + (cl.val - 128 * t2.val) = _; omega

/-- One more step enters the accumulator. -/
theorem isA_step (i : grid0.Coords) (t2 : Fin k0_t2_loop.trips) (t3 : Fin k0_t3_loop.trips)
    (m : FVec Ideal S16x128 .bf16) (hm : ∀ r l, m (ix2 r l) = am x s (i 1).val (8 * t3.val + r.val / 2) (1024 * (i 2).val + 128 * t2.val + l.val))
    (A : FVec Ideal S16x128 .bf16) (hA : IsA x s (lin (i 1).val (i 2).val t2.val t3.val) A) :
    IsA x s (lin (i 1).val (i 2).val t2.val (t3.val + 1)) (k0_pay3 (F := Ideal) A m) := by
  have g1 : (i 1).val < 2 := (i 1).isLt
  have g2 : (i 2).val < 28 := (i 2).isLt
  have h2 : t2.val < 8 := Nat.lt_of_lt_of_le t2.isLt k0_t2_abs.2.1
  have h3 : t3.val < 8 := Nat.lt_of_lt_of_le t3.isLt k0_t3_abs.2.1
  intro r l y
  show max (A (ix2 r l)) (m (ix2 r l)) ≤ y ↔ _
  rw [max_le_iff, hm, hA r l y]
  have e1 : lin (i 1).val (i 2).val t2.val t3.val / 8 / 224 = (i 1).val := by unfold lin; omega
  have e2 : lin (i 1).val (i 2).val t2.val t3.val % 8 = t3.val := by unfold lin; omega
  have e3 : lin (i 1).val (i 2).val t2.val t3.val / 8 % 224 = 8 * (i 2).val + t2.val := by unfold lin; omega
  have e4 : 128 * (8 * (i 2).val + t2.val) + l.val = 1024 * (i 2).val + 128 * t2.val + l.val := by omega
  constructor
  · rintro ⟨⟨h0, hl⟩, hr⟩
    refine ⟨h0, fun m' hm' => ?_⟩
    rcases Nat.lt_succ_iff_lt_or_eq.1 (show m' < lin (i 1).val (i 2).val t2.val t3.val + 1 from hm') with h | h
    · exact hl m' h
    · rw [h, e1, e2, e3, e4]; exact hr
  · rintro ⟨h0, hl⟩
    refine ⟨⟨h0, fun m' hm' => hl m' (Nat.lt_succ_of_lt hm')⟩, ?_⟩
    have := hl (lin (i 1).val (i 2).val t2.val t3.val) (Nat.lt_succ_self _)
    rwa [e1, e2, e3, e4] at this

set_option warn.classDefReducibility false in
/-- The spans of a tile. -/
@[sl_loop] def val_t3 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole) (arg1 : BitVec 32) (arg2 : BitVec 32) (k0_h3 : k0_cond3 i = 1#1) (k0_t2 : Fin k0_t2_loop.trips) (v52 : BitVec 32) (v54 : BitVec 32) (v75 : BitVec 32) (v88 : IVec S8x128 32) (c0_i32_38 : BitVec 32) (init : FVec Ideal S16x128 .bf16) (X_arg3 : BufTy.Contents (Elt Ideal) arg3.view.ty) (X_arg8 : BufTy.Contents (Elt Ideal) arg8.view.ty)
    (hX : IsX x (i 1).val (i 2).val (arg3.view.read (Elt Ideal) X_arg3)) (hW : IsW s ((i 1).val * 512 + 512) (arg8.view.read (Elt Ideal) X_arg8))
    (hC : IsCol (i 2).val k0_t2.val v88) :
    LoopInvTy_k0_t3 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg1 arg2 k0_h3 k0_t2 v52 v54 v75 v88 c0_i32_38 init where
  inv k A := inv_t3 x s c (lin (i 1).val (i 2).val k0_t2.val k) arg3 arg8 arg9 arg11 X_arg3 X_arg8 A
  step k acc := by
    unfold k0_t3_body
    iintro ⟨HR_arg3, HR_arg8, ⟨%f_arg9, HW_arg9, %hG⟩, ⟨%f_arg11, HW_arg11⟩, %hA⟩
    have hM0 : IsM x s (i 1).val (i 2).val k0_t2.val k.val (16 * 0) (arg11.view.read (Elt Ideal) f_arg11) :=
      fun _ _ _ _ _ _ _ h => absurd h (by omega)
    sl_exec
    sl_step
    isplitl [HR_arg3]; · iexact HR_arg3
    isplitl [HR_arg8]; · iexact HR_arg8
    have ht : Scf.trips k0_t4_loop.lb k0_t4_loop.ub k0_t4_loop.st = 4 := by decide +kernel
    have hM' : IsM x s (i 1).val (i 2).val k0_t2.val k.val 64 (arg11.view.read (Elt Ideal) fL0) := by
      simpa only [ht] using hL3
    have hm : ∀ (r : Fin 16) (l : Fin 128), (val_t3.sl.v148 c i arg11 k0_h3 k0_t2 k fL0) (ix2 r l) = am x s (i 1).val (8 * k.val + r.val / 2) (1024 * (i 2).val + 128 * k0_t2.val + l.val) := by
      intro r l
      refine groups x s k0_t2 k (i 1).val (i 2).val ![_, _, _, _, _, _, _, _] ?_ r l
      intro k' g q l'
      fin_cases k'
      · exact strided x s k0_t2 k (i 1).val (i 2).val arg11 fL0 hM' 0 (by omega) (k0_off6_eq k0_t2 k) _ g q l'
      · exact strided x s k0_t2 k (i 1).val (i 2).val arg11 fL0 hM' 1 (by omega) (k0_off7_eq k0_t2 k) _ g q l'
      · exact strided x s k0_t2 k (i 1).val (i 2).val arg11 fL0 hM' 2 (by omega) (k0_off8_eq k0_t2 k) _ g q l'
      · exact strided x s k0_t2 k (i 1).val (i 2).val arg11 fL0 hM' 3 (by omega) (k0_off9_eq k0_t2 k) _ g q l'
      · exact strided x s k0_t2 k (i 1).val (i 2).val arg11 fL0 hM' 4 (by omega) (k0_off10_eq k0_t2 k) _ g q l'
      · exact strided x s k0_t2 k (i 1).val (i 2).val arg11 fL0 hM' 5 (by omega) (k0_off11_eq k0_t2 k) _ g q l'
      · exact strided x s k0_t2 k (i 1).val (i 2).val arg11 fL0 hM' 6 (by omega) (k0_off12_eq k0_t2 k) _ g q l'
      · exact strided x s k0_t2 k (i 1).val (i 2).val arg11 fL0 hM' 7 (by omega) (k0_off13_eq k0_t2 k) _ g q l'
    isplitl [HW_arg9]
    · iexists _; isplitl [HW_arg9]; · iexact HW_arg9
      ipureintro
      exact isG_step x s i k0_t2 k arg9 f_arg9 _ hm _ (fun r q l => pay2_eq _ _ _ _) _ hG
    isplitl [HW_arg11]; · iexists _; iexact HW_arg11
    ipureintro
    exact isA_step x s i k0_t2 k _ hm _ hA

end Cert.KernelIdeal.Val

end
-- ==== Proof.Blocks.lean ====
/-
  The first phase: a block's tiles, and the decoding of the scale words.
-/
module

public import proofs.«01_k».proof.Proof.Spans

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (x : XTy) (s : STy)

set_option warn.classDefReducibility false in
/-- The tiles of a block. -/
@[sl_loop] def val_t2 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole) (arg1 : BitVec 32) (k0_h3 : k0_cond3 i = 1#1) (init : FVec Ideal S16x128 .bf16) (X_arg3 : BufTy.Contents (Elt Ideal) arg3.view.ty) (X_arg8 : BufTy.Contents (Elt Ideal) arg8.view.ty)
    (hX : IsX x (i 1).val (i 2).val (arg3.view.read (Elt Ideal) X_arg3)) (hW0 : IsW s ((i 1).val * 512 + 16 * Scf.trips k0_t1_loop.lb k0_t1_loop.ub k0_t1_loop.st) (arg8.view.read (Elt Ideal) X_arg8)) :
    LoopInvTy_k0_t2 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg1 (BitVec.ofNat 32 (i 2).val) k0_pay91 k0_h3 init where
  inv k A := inv_t3 x s c (lin (i 1).val (i 2).val k 0) arg3 arg8 arg9 arg11 X_arg3 X_arg8 A
  step k acc := by
    have hW : IsW s ((i 1).val * 512 + 512) (arg8.view.read (Elt Ideal) X_arg8) := by
      have e : 16 * Scf.trips k0_t1_loop.lb k0_t1_loop.ub k0_t1_loop.st = 512 := by decide +kernel
      rwa [e] at hW0
    clear hW0
    have g2 : (i 2).val < 28 := (i 2).isLt
    have hC : IsCol (i 2).val k.val (k0_pay23 (BitVec.ofNat 32 (i 2).val) k0_pay91 0#32 1#32 k) := fun r l => pay23_eq ⟨(i 2).val, g2⟩ k r l
    unfold k0_t2_body
    rw [k0_part4_eq_skeleton]
    iintro ⟨HR_arg3, HR_arg8, ⟨%f_arg9, HW_arg9, %hG⟩, ⟨%f_arg11, HW_arg11⟩, %hA⟩
    sl_exec
    sl_step
    have e : lin (i 1).val (i 2).val k.val (Scf.trips k0_t3_loop.lb k0_t3_loop.ub k0_t3_loop.st) = lin (i 1).val (i 2).val (k.val + 1) 0 := by
      have e' : Scf.trips k0_t3_loop.lb k0_t3_loop.ub k0_t3_loop.st = 8 := by decide +kernel
      unfold lin
      omega
    rw [e] at hL3 hL5
    isplitl [HR_arg3]; · iexact HR_arg3
    isplitl [HR_arg8]; · iexact HR_arg8
    isplitl [HW_arg9]
    · iexists _; isplitl [HW_arg9]; · iexact HW_arg9
      ipureintro
      exact hL3
    isplitl [HW_arg11]; · iexists _; iexact HW_arg11
    ipureintro
    exact hL5

/-- The block of the scale bytes of a batch. -/
def IsS (b : ℕ) (X : S1x1024x896.Idx → BitVec 8) : Prop := ∀ t k, X (ix3 0 t k) = rd3 0 s b t.val k.val

theorem isW_step (i : grid0.Coords) (t : Fin k0_t1_loop.trips) (arg4 : Memref sig .tc .vmem S1x1024x896 .i8) (arg8 : Memref sig .tc .vmem S2x512x896 .i32) (X : arg4.view.ty.Contents (Elt Ideal)) (f : arg8.view.ty.Contents (Elt Ideal))
    (hS : IsS s (i 1).val (arg4.view.read (Elt Ideal) X)) (hW : IsW s ((i 1).val * 512 + 16 * t.val) (arg8.view.read (Elt Ideal) f)) (inb1) (inb2) :
    IsW s ((i 1).val * 512 + 16 * (t.val + 1)) (arg8.view.read (Elt Ideal) (arg8.view.writes (Elt Ideal) f
      [⟨Rect.unit (s := S2x512x896) (k0_off2 i t) S1x16x896.size inb2, k0_pay92 (F := Ideal) (arg4.view.readAt (Elt Ideal) (Rect.unit (s := S1x1024x896) (k0_off1 t) S1x32x896.size inb1).toLoadRect X)⟩])) := by
  have g1 : (i 1).val < 2 := (i 1).isLt
  have ht : t.val < 32 := Nat.lt_of_lt_of_le t.isLt k0_t1_abs.2.1
  intro b r k h
  have hb := b.isLt
  have hr := r.isLt
  have hk := k.isLt
  by_cases hlt : b.val * 512 + r.val < (i 1).val * 512 + 16 * t.val
  · refine Eq.trans ?_ (hW b r k hlt)
    by_cases hb' : b.val = (i 1).val
    · exact View.read_writes_cons_unit_of_not_mem _ _ _ _ _ _ (k0_off2_eq i t) 1 (.inl (by show r.val < 16 * t.val; omega))
    · exact View.read_writes_cons_unit_of_not_mem _ _ _ _ _ _ (k0_off2_eq i t) 0 (.inl (by show b.val < (i 1).val; omega))
  · have e1 : b.val = (i 1).val := by omega
    refine (View.read_writes_cons_unit_of_mem _ _ _ _ _ _ (ix3 0 ⟨r.val - 16 * t.val, by omega⟩ k) (k0_off2_eq i t)
      (fin3 (by show b.val = (i 1).val + 0; omega) (by show r.val = 16 * t.val + (r.val - 16 * t.val); omega) (by show k.val = 0 + k.val; omega))).trans ?_
    refine (pay92_eq _ _ _).trans ?_
    have b0 : 2 * r.val < 1024 := by omega
    have b1 : 2 * r.val + 1 < 1024 := by omega
    rw [e1]
    congr 1
    · refine (readAt_of _ _ _ (k0_off1_eq t) _ (ix3 0 ⟨2 * r.val, b0⟩ k) (fin3 rfl (by show 2 * r.val = 32 * t.val + 2 * (r.val - 16 * t.val); omega) (by show k.val = 0 + k.val; omega))).trans ?_
      exact hS _ _
    · refine (readAt_of _ _ _ (k0_off1_eq t) _ (ix3 0 ⟨2 * r.val + 1, b1⟩ k) (fin3 rfl (by show 2 * r.val + 1 = 32 * t.val + (2 * (r.val - 16 * t.val) + 1); omega) (by show k.val = 0 + k.val; omega))).trans ?_
      exact hS _ _

set_option warn.classDefReducibility false in
/-- The rows of scale words. -/
@[sl_loop] def val_t1 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole) (k0_h1 : k0_cond1 i = 1#1) (X_arg4 : BufTy.Contents (Elt Ideal) arg4.view.ty)
    (hS : IsS s (i 1).val (arg4.view.read (Elt Ideal) X_arg4)) :
    LoopInvTy_k0_t1 (F := Ideal) Unit ℕ (UR sig nD τ) ℕ Variants.none c none Set.univ i arg3 harg3 arg4 harg4 arg5 harg5 arg6 harg6 arg7 harg7 arg8 harg8 arg9 harg9 arg10 harg10 arg11 harg11 arg12 harg12 k0_h1 where
  inv k _ := iprop((arg4.view.loc (c : Thread nD τ) ↦[arg4.view.set]{fullShare} X_arg4) ∗ (∃ f, (arg8.view.loc (c : Thread nD τ) ↦[arg8.view.set]{fullShare} f) ∗ ⌜IsW s ((i 1).val * 512 + 16 * k) (arg8.view.read (Elt Ideal) f)⌝))
  step k acc := by
    unfold k0_t1_body
    iintro ⟨HR_arg4, ⟨%f_arg8, HW_arg8, %hW⟩⟩
    sl_exec
    sl_step
    isplitl [HR_arg4]; · iexact HR_arg4
    iexists _; isplitl [HW_arg8]; · iexact HW_arg8
    ipureintro
    exact isW_step s i k arg4 arg8 X_arg4 f_arg8 hS hW _ _

end Cert.KernelIdeal.Val

end
-- ==== Proof.PayOne.lean ====
/-
  What the kernel's second phase computes, element by element: the scales of the groups and the products with their
  inverses.
-/
module

public import proofs.«01_k».proof.Proof.PayZero

@[expose] public section

set_option maxRecDepth 16384

noncomputable section

namespace Cert.KernelIdeal.Val

open Idealize.ShloMosaic Cert.KernelIdeal.Gen Cert.Spec
open Cert.KernelIdeal

/-- The scale of a group from its largest magnitude. -/
def csOf (m d : EReal) : EReal :=
  min (Ideal.ofBits .f32 0x43E00000#32) (max 0 (m * d * Ideal.ofBits .f32 0x3F800800#32 * ((1 / 6 : ℝ) : EReal)))

theorem zero32 : Ideal.ofBits .f32 0x00000000#32 = 0 := by
  unfold Ideal.ofBits
  simp [Ideal.ieee]

theorem one32 : Ideal.ofBits .f32 0x3F800000#32 = 1 := by
  rw [show (0x3F800000#32 : BitVec 32) = (BitVec.ofNat 32 127) <<< 23 by decide]
  refine (pw_eq 127 (by decide)).trans ?_
  norm_num

theorem pay81_eq (d : EReal) (v : FVec Ideal S8x128 .f32) (hv : ∀ r l, v (ix2 r l) = d) (g : Fin 64) (l : Fin 128) :
    k0_pay81 (F := Ideal) v (ix2 g l) = d := by
  unfold k0_pay81
  pointwise [hv]
  simp only [dite_eq_ite, ite_self]

theorem sixth : (Named.named (F := Ideal) κ "sixth" 0x3E2AAAAB#32 : Ideal .f32) = ((1 / 6 : ℝ) : EReal) :=
  IdealRules.named_const.ideal_named_scalar κ "sixth" (φ := .f32) _ _ rfl

theorem pay82_eq (d : EReal) (v : FVec Ideal S8x128 .f32) (hv : ∀ r l, v (ix2 r l) = d) (m : Vec Ideal S1x1x64x2x128 .bf16) (g : Fin 64) (l : Fin 128) :
    k0_pay82 (F := Ideal) v m (ix2 g l) = csOf (m (ix5 0 0 g 1 l)) d := by
  unfold k0_pay82
  pointwise [pay81_eq d v hv]
  unfold csOf
  rw [← sixth]

theorem pay83_eq (d : EReal) (v : FVec Ideal S8x128 .f32) (hv : ∀ r l, v (ix2 r l) = d) (m : Vec Ideal S1x1x64x2x128 .bf16) (ch : Fin 128) (g : Fin 64) :
    k0_pay83 (F := Ideal) v m (ix3 0 ch g) = csOf (m (ix5 0 0 g 1 ch)) d := by
  unfold k0_pay83
  pointwise [pay82_eq d v hv]

theorem pay84_eq (d : EReal) (v : FVec Ideal S8x128 .f32) (hv : ∀ r l, v (ix2 r l) = d) (m : Vec Ideal S1x1x64x2x128 .bf16) (g : Fin 64) (l : Fin 128) :
    k0_pay84 (F := Ideal) v m (ix2 g l) = (if csOf (m (ix5 0 0 g 1 l)) d = 0 then 1 else csOf (m (ix5 0 0 g 1 l)) d)⁻¹ * d := by
  unfold k0_pay84
  pointwise [pay82_eq d v hv, pay81_eq d v hv]
  congr 1
  unfold Ideal.div
  rw [if_neg (by split <;> simp_all), one_mul]

theorem pay89_eq (d : EReal) (v : FVec Ideal S8x128 .f32) (hv : ∀ r l, v (ix2 r l) = d) (m : Vec Ideal S1x1x64x2x128 .bf16) (g : Fin 64) (p : Fin 2) (l : Fin 128) :
    k0_pay89 (F := Ideal) (k0_pay85 v m) (k0_pay86 v m) (ix4 0 g p l) = (if csOf (m (ix5 0 0 g 1 l)) d = 0 then 1 else csOf (m (ix5 0 0 g 1 l)) d)⁻¹ * d := by
  unfold k0_pay89 k0_pay85 k0_pay86
  pointwise [pay84_eq d v hv]
  simp only [ite_self]

theorem pay90_eq (j : Fin 28) (t : Fin 8) (v76 : BitVec 32) (h : v76 = BitVec.ofNat 32 t.val) (r : Fin 8) (l : Fin 128) :
    (col (k0_pay90 (BitVec.ofNat 32 j.val) k0_pay91 v76 (ix2 r l))).val = (8 * j.val + t.val) % 32 * 4 + l.val / 32 := by
  subst h
  unfold k0_pay90
  pointwise [pay91_eq]
  refine (congrArg (fun w => (col (IntOp.addi (BitVec.ofNat 32 (l.val / 32)) w)).val) ?_).trans (col_tile j t ⟨l.val / 32, by omega⟩)
  clear l r
  revert j t
  decide +kernel

/-- Clipped to the range of the codes. -/
def clip6 (y : EReal) : EReal := min (Ideal.ofBits .f32 0x40C00000#32) (max (Ideal.ofBits .f32 0xC0C00000#32) y)

/-- An element times its scales. -/
def prodOf (v : Vec Ideal S1x32x128 .fp8e4m3) (w : Vec Ideal S1x8x128 .i32) (q : Vec Ideal S1x1x2x128 .bf16) (v148 : IVec S8x128 32) (h : Fin 2) (r : Fin 16) (l : Fin 128) : EReal :=
  v (ix3 0 ⟨16 * h.val + r.val, by omega⟩ l)
    * Ideal.ofBits .bf16 (BitVec.extractLsb' (16 * (r.val % 2)) 16 (w (ix3 0 ⟨r.val / 2, by omega⟩ (col (v148 (ix2 ⟨r.val / 2, by omega⟩ l))))))
    * q (ix4 0 0 0 l)

theorem pay25_eq (v148 : IVec S8x128 32) (v : Vec Ideal S1x32x128 .fp8e4m3) (w : Vec Ideal S1x8x128 .i32) (q : Vec Ideal S1x1x2x128 .bf16) (r : Fin 16) (l : Fin 128) :
    k0_pay27 (F := Ideal) (k0_pay25 v148 v w q) (Scalar.ofBits .f32 0x40C00000#32) k0_pay26 (ix2 r l) = clip6 (prodOf v w q v148 0 r l) := by
  unfold k0_pay27 k0_pay25 k0_pay26 k0_pay24
  pointwise [bitcast_32_16, src_hi]
  unfold clip6 prodOf
  simp only [Fin.val_zero, Nat.mul_zero, Nat.zero_add]
  rfl

theorem pay28_eq (v148 : IVec S8x128 32) (v : Vec Ideal S1x32x128 .fp8e4m3) (w : Vec Ideal S1x8x128 .i32) (q : Vec Ideal S1x1x2x128 .bf16) (r : Fin 16) (l : Fin 128) :
    k0_pay28 (F := Ideal) v148 (k0_pay24 v) w q (ix2 r l) = clip6 (prodOf v w q v148 1 r l) := by
  unfold k0_pay28 k0_pay24
  pointwise [bitcast_32_16, src_hi]
  rfl

end Cert.KernelIdeal.Val

end
-- ==== Proof.PayCode.lean ====
/-
  What the kernel's second phase computes, element by element: the four-bit codes and their packing into words.
-/
module

public import proofs.«01_k».proof.Proof.PayOne
public import Mathlib.Data.BitVec

@[expose] public section

set_option maxRecDepth 16384

noncomputable section

namespace Cert.KernelIdeal.Val

open Idealize.ShloMosaic Cert.KernelIdeal.Gen Cert.Spec
open Cert.KernelIdeal

/-- A normal pattern's value. -/
theorem ieee_normal (e m : ℕ) {w : ℕ} (b : BitVec w) (neg : Bool) (ex fr : ℕ) (h1 : (b.extractLsb' (e + m) 1 == 1#1) = neg)
    (h2 : (b.extractLsb' m e).toNat = ex) (h3 : (b.extractLsb' 0 m).toNat = fr) (h4 : ex ≠ 2 ^ e - 1) (h5 : ex ≠ 0) :
    Ideal.ieee e m b = (((if neg then -1 else 1) * (2 ^ m + fr : ℕ) * (2 : ℝ) ^ ((ex : ℤ) - (2 ^ (e - 1) - 1) - m) : ℝ) : EReal) := by
  unfold Ideal.ieee
  simp only [h1, h2, h3, if_neg h4, if_neg h5]

theorem bf16_val (b : BitVec 16) (v : ℝ) (neg : Bool) (ex fr : ℕ) (h : ((b.extractLsb' 15 1 == 1#1) = neg ∧ (b.extractLsb' 7 8).toNat = ex ∧ (b.extractLsb' 0 7).toNat = fr) ∧ ex ≠ 255 ∧ ex ≠ 0)
    (hv : (if neg then (-1 : ℝ) else 1) * (2 ^ 7 + fr : ℕ) * (2 : ℝ) ^ ((ex : ℤ) - (2 ^ (8 - 1) - 1) - (7 : ℕ)) = v) : Ideal.ofBits .bf16 b = (v : EReal) :=
  (ieee_normal 8 7 b neg ex fr h.1.1 h.1.2.1 h.1.2.2 h.2.1 h.2.2).trans (congrArg _ hv)

theorem f32_val (b : BitVec 32) (v : ℝ) (neg : Bool) (ex fr : ℕ) (h : ((b.extractLsb' 31 1 == 1#1) = neg ∧ (b.extractLsb' 23 8).toNat = ex ∧ (b.extractLsb' 0 23).toNat = fr) ∧ ex ≠ 255 ∧ ex ≠ 0)
    (hv : (if neg then (-1 : ℝ) else 1) * (2 ^ 23 + fr : ℕ) * (2 : ℝ) ^ ((ex : ℤ) - (2 ^ (8 - 1) - 1) - (23 : ℕ)) = v) : Ideal.ofBits .f32 b = (v : EReal) :=
  (ieee_normal 8 23 b neg ex fr h.1.1 h.1.2.1 h.1.2.2 h.2.1 h.2.2).trans (congrArg _ hv)

theorem b3E80 : Ideal.ofBits .bf16 0x3E80#16 = ((0.25 : ℝ) : EReal) := bf16_val _ _ false 125 0 (by decide) (by norm_num)
theorem f3E80 : Ideal.ofBits .f32 0x3E800000#32 = ((0.25 : ℝ) : EReal) := f32_val _ _ false 125 0 (by decide) (by norm_num)
theorem b3F40 : Ideal.ofBits .bf16 0x3F40#16 = ((0.75 : ℝ) : EReal) := bf16_val _ _ false 126 64 (by decide) (by norm_num)
theorem f3F40 : Ideal.ofBits .f32 0x3F400000#32 = ((0.75 : ℝ) : EReal) := f32_val _ _ false 126 4194304 (by decide) (by norm_num)
theorem b3FA0 : Ideal.ofBits .bf16 0x3FA0#16 = ((1.25 : ℝ) : EReal) := bf16_val _ _ false 127 32 (by decide) (by norm_num)
theorem f3FA0 : Ideal.ofBits .f32 0x3FA00000#32 = ((1.25 : ℝ) : EReal) := f32_val _ _ false 127 2097152 (by decide) (by norm_num)
theorem b3FE0 : Ideal.ofBits .bf16 0x3FE0#16 = ((1.75 : ℝ) : EReal) := bf16_val _ _ false 127 96 (by decide) (by norm_num)
theorem f3FE0 : Ideal.ofBits .f32 0x3FE00000#32 = ((1.75 : ℝ) : EReal) := f32_val _ _ false 127 6291456 (by decide) (by norm_num)
theorem b4020 : Ideal.ofBits .bf16 0x4020#16 = ((2.5 : ℝ) : EReal) := bf16_val _ _ false 128 32 (by decide) (by norm_num)
theorem f4020 : Ideal.ofBits .f32 0x40200000#32 = ((2.5 : ℝ) : EReal) := f32_val _ _ false 128 2097152 (by decide) (by norm_num)
theorem b4060 : Ideal.ofBits .bf16 0x4060#16 = ((3.5 : ℝ) : EReal) := bf16_val _ _ false 128 96 (by decide) (by norm_num)
theorem f4060 : Ideal.ofBits .f32 0x40600000#32 = ((3.5 : ℝ) : EReal) := f32_val _ _ false 128 6291456 (by decide) (by norm_num)
theorem b40A0 : Ideal.ofBits .bf16 0x40A0#16 = ((5 : ℝ) : EReal) := bf16_val _ _ false 129 32 (by decide) (by norm_num)
theorem f40A0 : Ideal.ofBits .f32 0x40A00000#32 = ((5 : ℝ) : EReal) := f32_val _ _ false 129 2097152 (by decide) (by norm_num)
theorem b40C0 : Ideal.ofBits .bf16 0x40C0#16 = ((6 : ℝ) : EReal) := bf16_val _ _ false 129 64 (by decide) (by norm_num)
theorem f40C0 : Ideal.ofBits .f32 0x40C00000#32 = ((6 : ℝ) : EReal) := f32_val _ _ false 129 4194304 (by decide) (by norm_num)
theorem fC0C0 : Ideal.ofBits .f32 0xC0C00000#32 = ((-6 : ℝ) : EReal) := f32_val _ _ true 129 4194304 (by decide) (by norm_num)

/-- The first four comparisons of the magnitudes, counted. -/
def cnt4 (P : FVec Ideal S64x128 .bf16) : IVec S64x128 32 :=
  have cst_104 : Ideal .bf16 := Scalar.ofBits .bf16 0x3E80#16
  have v314 : FVec Ideal S64x128 .bf16 := broadcast S64x128 cst_104
  have v315 : IVec S64x128 1 := cmpf .ogt (absf P) v314
  have v316 : IVec S64x128 32 := extui 32 v315 natLt_1_32
  have cst_105 : Ideal .bf16 := Scalar.ofBits .bf16 0x3F40#16
  have v317 : FVec Ideal S64x128 .bf16 := broadcast S64x128 cst_105
  have v318 : IVec S64x128 1 := cmpf .oge (absf P) v317
  have v319 : IVec S64x128 32 := extui 32 v318 natLt_1_32
  have v320 : IVec S64x128 32 := addi v316 v319
  have cst_106 : Ideal .bf16 := Scalar.ofBits .bf16 0x3FA0#16
  have v321 : FVec Ideal S64x128 .bf16 := broadcast S64x128 cst_106
  have v322 : IVec S64x128 1 := cmpf .ogt (absf P) v321
  have v323 : IVec S64x128 32 := extui 32 v322 natLt_1_32
  have v324 : IVec S64x128 32 := addi v320 v323
  have cst_107 : Ideal .bf16 := Scalar.ofBits .bf16 0x3FE0#16
  have v325 : FVec Ideal S64x128 .bf16 := broadcast S64x128 cst_107
  have v326 : IVec S64x128 1 := cmpf .oge (absf P) v325
  have v327 : IVec S64x128 32 := extui 32 v326 natLt_1_32
  have v328 : IVec S64x128 32 := addi v324 v327
  v328

/-- The four-bit code of a clipped value, its sign still on. -/
def raw (q : EReal) : BitVec 32 := kk (av q) + 8#32 * (if q < 0 then 1#32 else 0#32)

theorem ext1 (p : Prop) [Decidable p] : BitVec.setWidth 32 (BitVec.ofBool (decide p)) = if p then 1#32 else 0#32 := by
  by_cases h : p <;> simp [h]

theorem cnt4_eq (P : FVec Ideal S64x128 .bf16) (r : Fin 64) (l : Fin 128) : cnt4 P (ix2 r l) =
    (if ((0.25 : ℝ) : EReal) < av (P (ix2 r l)) then 1#32 else 0#32) + (if ((0.75 : ℝ) : EReal) ≤ av (P (ix2 r l)) then 1#32 else 0#32)
    + (if ((1.25 : ℝ) : EReal) < av (P (ix2 r l)) then 1#32 else 0#32) + (if ((1.75 : ℝ) : EReal) ≤ av (P (ix2 r l)) then 1#32 else 0#32) := by
  unfold cnt4
  pointwise [ext1]
  rw [b3E80, b3F40, b3FA0, b3FE0]
  rfl

theorem shift_of : ∀ (g x : Fin 8), (IntOp.muli (4#32)
            (Scalar.select
              (IntOp.andi
                (IntOp.xori
                  (IntOp.cmpi CmpIPredicate.slt
                    (IntOp.remsi ArithUnit.vector (BitVec.ofNat 32 (g.val * 8 + x.val))
                      (Scalar.select (Scalar.cmpi CmpIPredicate.eq 8#32 0#32) 1#32 8#32))
                    0#32)
                  (Scalar.cmpi CmpIPredicate.slt (Scalar.select (Scalar.cmpi CmpIPredicate.eq 8#32 0#32) 1#32 8#32)
                    0#32))
                (IntOp.cmpi CmpIPredicate.ne
                  (IntOp.remsi ArithUnit.vector (BitVec.ofNat 32 (g.val * 8 + x.val))
                    (Scalar.select (Scalar.cmpi CmpIPredicate.eq 8#32 0#32) 1#32 8#32))
                  0#32))
              (IntOp.addi
                (IntOp.remsi ArithUnit.vector (BitVec.ofNat 32 (g.val * 8 + x.val))
                  (Scalar.select (Scalar.cmpi CmpIPredicate.eq 8#32 0#32) 1#32 8#32))
                (Scalar.select (Scalar.cmpi CmpIPredicate.eq 8#32 0#32) 1#32 8#32))
              (IntOp.remsi ArithUnit.vector (BitVec.ofNat 32 (g.val * 8 + x.val))
                (Scalar.select (Scalar.cmpi CmpIPredicate.eq 8#32 0#32) 1#32 8#32)))) = BitVec.ofNat 32 (4 * x.val) := by decide +kernel

theorem shl4 (w : BitVec 32) (e : Fin 8) : IntOp.shli ArithUnit.vector w (BitVec.ofNat 32 (4 * e.val)) = w <<< (4 * e.val) := by
  unfold IntOp.shli
  fin_cases e <;> simp

theorem pay35_eq (P : FVec Ideal S64x128 .bf16) (g : Fin 8) (l : Fin 128) :
    k0_pay35 (F := Ideal) P (absf P) (cnt4 P) (ix2 g l) = ∑ e : Fin 8, raw (P (ix2 ⟨g.val * 8 + e.val, by omega⟩ l)) <<< (4 * e.val) := by
  unfold k0_pay35
  pointwise [ext1, cnt4_eq]
  refine Finset.sum_congr (M := BitVec 32) rfl fun e _ => ?_
  rw [shift_of g e, shl4]
  congr 1
  rw [b4020, b4060, b40A0]
  unfold raw kk
  rw [f3E80, f3F40, f3FA0, f3FE0, f4020, f4060, f40A0]
  rfl

/-- The count of a value's comparisons is at most seven. -/
theorem kk_lt (q : EReal) : ∃ k : Fin 8, kk q = BitVec.ofNat 32 k.val := by
  have h (p : Prop) [Decidable p] : ((if p then 1#32 else 0#32) : BitVec 32).toNat ≤ 1 := by split <;> simp
  refine ⟨⟨(kk q).toNat, ?_⟩, ?_⟩
  · unfold kk
    simp only [BitVec.toNat_add]
    have h1 := h (Ideal.ofBits .f32 0x3E800000#32 < q)
    have h2 := h (Ideal.ofBits .f32 0x3F400000#32 ≤ q)
    have h3 := h (Ideal.ofBits .f32 0x3FA00000#32 < q)
    have h4 := h (Ideal.ofBits .f32 0x3FE00000#32 ≤ q)
    have h5 := h (Ideal.ofBits .f32 0x40200000#32 < q)
    have h6 := h (Ideal.ofBits .f32 0x40600000#32 ≤ q)
    have h7 := h (Ideal.ofBits .f32 0x40A00000#32 < q)
    omega
  · simp

/-- Clipping keeps the smaller of the magnitude and six. -/
theorem av_clip (y : EReal) : av (clip6 y) = min (av y) (Ideal.ofBits .f32 0x40C00000#32) := by
  unfold av clip6
  rw [fC0C0, f40C0]
  have e : ((-6 : ℝ) : EReal) = -((6 : ℝ) : EReal) := EReal.coe_neg 6
  have p : (0 : EReal) ≤ ((6 : ℝ) : EReal) := EReal.coe_nonneg.2 (by norm_num)
  have n : -((6 : ℝ) : EReal) ≤ 0 := by rw [← e]; exact EReal.coe_nonpos.2 (by norm_num)
  rw [e]
  generalize ((6 : ℝ) : EReal) = c at p n
  rcases le_total 0 y with h | h
  · have h' : -y ≤ 0 := EReal.neg_le_zero.2 h
    rw [max_eq_right (n.trans h), max_eq_left (h'.trans h), min_comm]
    refine max_eq_left ?_
    have q : 0 ≤ min y c := le_min h p
    exact (EReal.neg_le_zero.2 q).trans q
  · have h' : 0 ≤ -y := EReal.neg_nonneg.2 h
    rw [max_eq_right (h.trans h')]
    have m : max (-c) y ≤ 0 := max_le n h
    rw [min_eq_right (m.trans p), max_eq_right (m.trans (EReal.neg_nonneg.2 m))]
    refine le_antisymm (le_min ?_ ?_) ?_
    · exact EReal.neg_le_neg_iff.2 (le_max_right _ _)
    · exact EReal.neg_le.1 (le_max_left _ _)
    · rcases le_total (-c) y with k | k
      · rw [max_eq_right k]; exact min_le_left _ _
      · rw [max_eq_left k, neg_neg]; exact min_le_right _ _

theorem clip_neg (y : EReal) : clip6 y < 0 ↔ y < 0 := by
  unfold clip6
  rw [fC0C0, f40C0]
  have p : ¬ ((6 : ℝ) : EReal) < 0 := not_lt.2 (EReal.coe_nonneg.2 (by norm_num))
  have n : ((-6 : ℝ) : EReal) < 0 := EReal.coe_neg'.2 (by norm_num)
  rw [min_lt_iff, max_lt_iff]
  tauto

/-- A byte of two codes, masked. -/
def keep (b : BitVec 8) : BitVec 8 := b &&& (((b &&& 0x77#8) + 0x77#8) ||| 0x77#8)

/-- Masking a byte of two codes clears the sign of a zero. -/
theorem keep_raw (y0 y1 : EReal) :
    keep ((raw (clip6 y0) + raw (clip6 y1) <<< 4).setWidth 8) = (nib y0 ||| nib y1 <<< 4).setWidth 8 := by
  unfold raw nib
  simp only [av_clip, clip_neg]
  obtain ⟨k0, h0⟩ := kk_lt (min (av y0) (Ideal.ofBits .f32 0x40C00000#32))
  obtain ⟨k1, h1⟩ := kk_lt (min (av y1) (Ideal.ofBits .f32 0x40C00000#32))
  rw [h0, h1]
  have key : ∀ (k0 k1 : Fin 8) (a b : Bool),
      keep ((BitVec.ofNat 32 k0.val + 8#32 * (if a then 1#32 else 0#32) + (BitVec.ofNat 32 k1.val + 8#32 * (if b then 1#32 else 0#32)) <<< 4).setWidth 8)
        = ((BitVec.ofNat 32 k0.val + (if a = true ∧ 0 < (BitVec.ofNat 32 k0.val).toNat then 8#32 else 0#32))
          ||| (BitVec.ofNat 32 k1.val + (if b = true ∧ 0 < (BitVec.ofNat 32 k1.val).toNat then 8#32 else 0#32)) <<< 4).setWidth 8 := by decide +kernel
  have := key k0 k1 (decide (y0 < 0)) (decide (y1 < 0))
  simpa only [decide_eq_true_eq] using this

theorem raw_lt (q : EReal) : (raw q).toNat < 16 := by
  unfold raw
  obtain ⟨k, h⟩ := kk_lt (av q)
  rw [h]
  have key : ∀ (k : Fin 8) (a : Bool), (BitVec.ofNat 32 k.val + 8#32 * (if a then 1#32 else 0#32)).toNat < 16 := by decide +kernel
  have := key k (decide (q < 0))
  simpa only [decide_eq_true_eq] using this

theorem byte_add (u k : ℕ) (hk : k < 4) (l0 : u % 256 ≤ 119) (l1 : u / 256 % 256 ≤ 119) (l2 : u / 65536 % 256 ≤ 119) (l3 : u / 16777216 % 256 ≤ 119) :
    (u + 2004318071) % 4294967296 / 2 ^ (8 * k) % 256 = (u / 2 ^ (8 * k) % 256 + 119) % 256 := by
  interval_cases k <;> norm_num only <;> omega

/-- A byte of the masked word is the masked byte. -/
theorem mask_byte (w : BitVec 32) (k : ℕ) (hk : k < 4) :
    (w &&& (((w &&& 0x77777777#32) + 0x77777777#32) ||| 0x77777777#32)).extractLsb' (8 * k) 8 = keep (w.extractLsb' (8 * k) 8) := by
  have c (j : ℕ) (hj : j < 4) : (0x77777777#32).extractLsb' (8 * j) 8 = 0x77#8 := by interval_cases j <;> decide
  have le (j : ℕ) (hj : j < 4) : (w &&& 0x77777777#32).toNat / 2 ^ (8 * j) % 256 ≤ 119 := by
    have h : ((w &&& 0x77777777#32).extractLsb' (8 * j) 8).toNat ≤ 119 := by
      rw [BitVec.extractLsb'_and, c j hj, BitVec.toNat_and]
      exact Nat.and_le_right
    rwa [BitVec.extractLsb'_toNat, Nat.shiftRight_eq_div_pow] at h
  have add : ((w &&& 0x77777777#32) + 0x77777777#32).extractLsb' (8 * k) 8 = (w &&& 0x77777777#32).extractLsb' (8 * k) 8 + 0x77#8 := by
    refine BitVec.eq_of_toNat_eq ?_
    rw [BitVec.extractLsb'_toNat, BitVec.toNat_add, BitVec.toNat_add, BitVec.extractLsb'_toNat, Nat.shiftRight_eq_div_pow, Nat.shiftRight_eq_div_pow]
    exact byte_add _ k hk (by simpa using le 0 (by omega)) (le 1 (by omega)) (le 2 (by omega)) (le 3 (by omega))
  unfold keep
  rw [BitVec.extractLsb'_and, BitVec.extractLsb'_or, add, BitVec.extractLsb'_and, c k hk]

theorem byte_of (n : ℕ → ℕ) (hn : ∀ e, n e < 16) (k : ℕ) (hk : k < 4) :
    (n 0 + n 1 * 16 + n 2 * 256 + n 3 * 4096 + n 4 * 65536 + n 5 * 1048576 + n 6 * 16777216 + n 7 * 268435456) / 2 ^ (8 * k) % 256
      = n (2 * k) + n (2 * k + 1) * 16 := by
  have h0 := hn 0; have h1 := hn 1; have h2 := hn 2; have h3 := hn 3
  have h4 := hn 4; have h5 := hn 5; have h6 := hn 6; have h7 := hn 7
  interval_cases k <;> norm_num only <;> omega

theorem toNat_shl (w : BitVec 32) (h : w.toNat < 16) (e : ℕ) (he : e < 8) : (w <<< (4 * e)).toNat = w.toNat * 2 ^ (4 * e) := by
  rw [BitVec.toNat_shiftLeft, Nat.shiftLeft_eq]
  refine Nat.mod_eq_of_lt ?_
  interval_cases e <;> norm_num only <;> omega

/-- A byte of eight codes side by side. -/
theorem byte_sum (n : Fin 8 → BitVec 32) (hn : ∀ e, (n e).toNat < 16) (k : Fin 4) :
    (∑ e : Fin 8, n e <<< (4 * e.val)).extractLsb' (8 * k.val) 8 = (n ⟨2 * k.val, by omega⟩ + n ⟨2 * k.val + 1, by omega⟩ <<< 4).setWidth 8 := by
  have t (e : Fin 8) := toNat_shl (n e) (hn e) e.val e.isLt
  have s : (∑ e : Fin 8, n e <<< (4 * e.val)).toNat = (n 0).toNat + (n 1).toNat * 16 + (n 2).toNat * 256 + (n 3).toNat * 4096
      + (n 4).toNat * 65536 + (n 5).toNat * 1048576 + (n 6).toNat * 16777216 + (n 7).toNat * 268435456 := by
    have h0 := hn 0; have h1 := hn 1; have h2 := hn 2; have h3 := hn 3
    have h4 := hn 4; have h5 := hn 5; have h6 := hn 6; have h7 := hn 7
    rw [Fin.sum_univ_eight]
    simp only [BitVec.toNat_add, t]
    norm_num
    omega
  have q := byte_of (fun e => if h : e < 8 then (n ⟨e, h⟩).toNat else 0) (fun e => by split <;> [exact hn _; omega]) k.val k.isLt
  have a : 2 * k.val < 8 := by omega
  have b : 2 * k.val + 1 < 8 := by omega
  simp only [dif_pos a, dif_pos b] at q
  refine BitVec.eq_of_toNat_eq ?_
  rw [BitVec.extractLsb'_toNat, Nat.shiftRight_eq_div_pow, s]
  refine q.trans ?_
  have ha := hn ⟨_, a⟩
  have hb := hn ⟨_, b⟩
  have hs := toNat_shl (n ⟨_, b⟩) hb 1 (by omega)
  rw [BitVec.toNat_setWidth, BitVec.toNat_add, hs]
  omega

/-- The words of a quarter's codes. -/
def codeT (P : FVec Ideal S64x128 .bf16) : IVec S8x128 32 :=
  andi (k0_pay35 (F := Ideal) P (absf P) (cnt4 P)) (ori (k0_pay36 (F := Ideal) P (absf P) (cnt4 P)) (broadcast S8x128 0x77777777#32))

theorem codeT_eq (P : FVec Ideal S64x128 .bf16) (y : Fin 64 → Fin 128 → EReal) (hP : ∀ r l, P (ix2 r l) = clip6 (y r l)) (g : Fin 8) (l : Fin 128) (k : Fin 4) :
    (codeT P (ix2 g l)).extractLsb' (8 * k.val) 8
      = (nib (y ⟨g.val * 8 + 2 * k.val, by omega⟩ l) ||| nib (y ⟨g.val * 8 + (2 * k.val + 1), by omega⟩ l) <<< 4).setWidth 8 := by
  have e : codeT P (ix2 g l) = k0_pay35 (F := Ideal) P (absf P) (cnt4 P) (ix2 g l)
      &&& (((k0_pay35 (F := Ideal) P (absf P) (cnt4 P) (ix2 g l) &&& 0x77777777#32) + 0x77777777#32) ||| 0x77777777#32) := by
    unfold codeT k0_pay36
    rfl
  rw [e, mask_byte _ _ k.isLt, pay35_eq, byte_sum _ (fun _ => raw_lt _)]
  rw [hP, hP]
  exact keep_raw _ _

end Cert.KernelIdeal.Val

end
-- ==== Proof.Quarter.lean ====
/-
  What the kernel's second phase computes, element by element: the codes of 64 tokens, and of a span of four such.
-/
module

public import proofs.«01_k».proof.Proof.PayCode

@[expose] public section

set_option maxRecDepth 16384

noncomputable section

namespace Cert.KernelIdeal.Val

open Idealize.ShloMosaic Cert.KernelIdeal.Gen Cert.Spec
open Cert.KernelIdeal

theorem pay30_eq (v148 : IVec S8x128 32) (v : Vec Ideal S1x32x128 .fp8e4m3) (w : Vec Ideal S1x8x128 .i32) (q : Vec Ideal S1x1x2x128 .bf16) (r : Fin 16) (l : Fin 128) :
    k0_pay30 (F := Ideal) v148 v w q (ix2 r l) = clip6 (prodOf v w q v148 0 r l) := by
  unfold k0_pay30 k0_pay29
  pointwise [bitcast_32_16, src_hi]
  unfold clip6 prodOf
  simp only [Fin.val_zero, Nat.mul_zero, Nat.zero_add]
  rfl

/-- The clipped elements of 64 tokens. -/
def tile (v148 : IVec S8x128 32) (v0 v1 : Vec Ideal S1x32x128 .fp8e4m3) (w0 w1 w2 w3 : Vec Ideal S1x8x128 .i32) (q0 q1 q2 q3 : Vec Ideal S1x1x2x128 .bf16) : FVec Ideal S64x128 .bf16 :=
  k0_pay32 (F := Ideal) v148 (k0_pay27 (k0_pay25 v148 v0 w0 q0) (Scalar.ofBits .f32 0x40C00000#32) k0_pay26) (k0_pay28 v148 (k0_pay24 v0) w1 q1)
    (k0_pay30 v148 v1 w2 q2) (k0_pay31 v1) w3 q3

theorem tile_eq (v148 : IVec S8x128 32) (v0 v1 : Vec Ideal S1x32x128 .fp8e4m3) (w0 w1 w2 w3 : Vec Ideal S1x8x128 .i32) (q0 q1 q2 q3 : Vec Ideal S1x1x2x128 .bf16)
    (y : Fin 64 → Fin 128 → EReal)
    (h0 : ∀ (r : Fin 16) l, prodOf v0 w0 q0 v148 0 r l = y ⟨r.val, by omega⟩ l) (h1 : ∀ (r : Fin 16) l, prodOf v0 w1 q1 v148 1 r l = y ⟨16 + r.val, by omega⟩ l)
    (h2 : ∀ (r : Fin 16) l, prodOf v1 w2 q2 v148 0 r l = y ⟨32 + r.val, by omega⟩ l) (h3 : ∀ (r : Fin 16) l, prodOf v1 w3 q3 v148 1 r l = y ⟨48 + r.val, by omega⟩ l)
    (r : Fin 64) (l : Fin 128) : tile v148 v0 v1 w0 w1 w2 w3 q0 q1 q2 q3 (ix2 r l) = clip6 (y r l) := by
  unfold tile k0_pay32 k0_pay31 k0_pay29
  pointwise [bitcast_32_16, src_hi, pay28_eq, pay30_eq]
  have hr := r.isLt
  split
  · rename_i h
    exact (pay25_eq _ _ _ _ _ _).trans (congrArg clip6 (h0 ⟨r.val, h⟩ l))
  split
  · rename_i h h'
    refine congrArg clip6 ((h1 ⟨r.val - 16, h'⟩ l).trans (congrArg (y · l) (Fin.ext ?_)))
    show 16 + (r.val - 16) = r.val
    omega
  split
  · rename_i h h' h''
    refine congrArg clip6 ((h2 ⟨r.val - 16 - 16, h''⟩ l).trans (congrArg (y · l) (Fin.ext ?_)))
    show 32 + (r.val - 16 - 16) = r.val
    omega
  · rename_i h h' h''
    refine congrArg clip6 ((h3 ⟨r.val - 16 - 16 - 16, by omega⟩ l).trans (congrArg (y · l) (Fin.ext ?_)))
    show 48 + (r.val - 16 - 16 - 16) = r.val
    omega

/-- The bytes of a quarter's codes. -/
def bytes (P : FVec Ideal S64x128 .bf16) : IVec S32x128 8 := bitcast S32x128 8 (codeT P) bitcasts_S8x128_w32_S32x128_w8

theorem bytes_eq (P : FVec Ideal S64x128 .bf16) (y : Fin 64 → Fin 128 → EReal) (hP : ∀ r l, P (ix2 r l) = clip6 (y r l)) (ρ : Fin 32) (l : Fin 128) :
    bytes P (ix2 ρ l) = (nib (y ⟨2 * ρ.val, by omega⟩ l) ||| nib (y ⟨2 * ρ.val + 1, by omega⟩ l) <<< 4).setWidth 8 := by
  have hρ := ρ.isLt
  have g : ρ.val / 4 < 8 := by omega
  have e : bytes P (ix2 ρ l) = (codeT P (ix2 ⟨ρ.val / 4, g⟩ l)).extractLsb' (8 * (ρ.val % 4)) 8 := by
    apply BitVec.eq_of_getLsbD_eq
    intro i hi
    unfold bytes
    rw [bitcast_getLsbD _ _ _ i hi (by decide), BitVec.getLsbD_extractLsb']
    have em : (S32x128.row (ix2 ρ l) * 8 + i) % 32 = 8 * (ρ.val % 4) + i := by
      show (ρ.val * 8 + i) % 32 = _
      omega
    rw [em]
    simp only [hi, decide_true, Bool.true_and]
    congr 2
    funext c
    match c with
    | ⟨0, _⟩ => exact Fin.ext ((Shape.Bitcasts.srcIdx_row _ _ _ _ ⟨0, Nat.zero_lt_two⟩ rfl).trans (by show (ρ.val * 8 + i) / 32 = ρ.val / 4; omega))
    | ⟨1, _⟩ => exact Fin.ext (Shape.Bitcasts.srcIdx_other _ _ _ _ ⟨1, Nat.one_lt_two⟩ (by show ¬ 1 + 2 = 2; omega))
  rw [e, codeT_eq P y hP ⟨ρ.val / 4, g⟩ l ⟨ρ.val % 4, by omega⟩]
  have a : (⟨ρ.val / 4 * 8 + 2 * (ρ.val % 4), by omega⟩ : Fin 64) = ⟨2 * ρ.val, by omega⟩ := Fin.ext (by show ρ.val / 4 * 8 + 2 * (ρ.val % 4) = 2 * ρ.val; omega)
  have b : (⟨ρ.val / 4 * 8 + (2 * (ρ.val % 4) + 1), by omega⟩ : Fin 64) = ⟨2 * ρ.val + 1, by omega⟩ := Fin.ext (by show ρ.val / 4 * 8 + (2 * (ρ.val % 4) + 1) = 2 * ρ.val + 1; omega)
  rw [a, b]

/-- The codes of a span of 256 tokens. -/
theorem pay11_eq (P0 P1 P2 P3 : FVec Ideal S64x128 .bf16) (y : Fin 256 → Fin 128 → EReal)
    (h0 : ∀ (r : Fin 64) l, P0 (ix2 r l) = clip6 (y ⟨r.val, by omega⟩ l)) (h1 : ∀ (r : Fin 64) l, P1 (ix2 r l) = clip6 (y ⟨64 + r.val, by omega⟩ l))
    (h2 : ∀ (r : Fin 64) l, P2 (ix2 r l) = clip6 (y ⟨128 + r.val, by omega⟩ l)) (h3 : ∀ (r : Fin 64) l, P3 (ix2 r l) = clip6 (y ⟨192 + r.val, by omega⟩ l))
    (ch : Fin 128) (w : Fin 128) :
    k0_pay11 (bytes P0) (bytes P1) (bytes P2) (codeT P3) (ix3 0 ch w)
      = (nib (y ⟨2 * w.val, by omega⟩ ch) ||| nib (y ⟨2 * w.val + 1, by omega⟩ ch) <<< 4).setWidth 8 := by
  have hw := w.isLt
  have key (P : FVec Ideal S64x128 .bf16) (z : ℕ) (hz : z + 64 ≤ 256) (hP : ∀ (r : Fin 64) l, P (ix2 r l) = clip6 (y ⟨z + r.val, by omega⟩ l)) (ρ : Fin 32) (e : w.val * 2 = z + 2 * ρ.val) :
      bytes P (ix2 ρ ch) = (nib (y ⟨2 * w.val, by omega⟩ ch) ||| nib (y ⟨2 * w.val + 1, by omega⟩ ch) <<< 4).setWidth 8 := by
    rw [bytes_eq P (fun r l => y ⟨z + r.val, by omega⟩ l) hP]
    have a : (⟨z + 2 * ρ.val, by omega⟩ : Fin 256) = ⟨2 * w.val, by omega⟩ := Fin.ext (by show z + 2 * ρ.val = 2 * w.val; omega)
    have b : (⟨z + (2 * ρ.val + 1), by omega⟩ : Fin 256) = ⟨2 * w.val + 1, by omega⟩ := Fin.ext (by show z + (2 * ρ.val + 1) = 2 * w.val + 1; omega)
    show (nib (y ⟨z + 2 * ρ.val, _⟩ ch) ||| nib (y ⟨z + (2 * ρ.val + 1), _⟩ ch) <<< 4).setWidth 8 = _
    rw [a, b]
  have h0' : ∀ (r : Fin 64) l, P0 (ix2 r l) = clip6 (y ⟨0 + r.val, by omega⟩ l) := fun r l =>
    (h0 r l).trans (congrArg (fun k => clip6 (y k l)) (Fin.ext (Nat.zero_add _).symm))
  unfold k0_pay11
  pointwise []
  split
  · exact key P0 0 (by omega) h0' _ (by show w.val * 2 = 0 + 2 * w.val; omega)
  split
  · exact key P1 64 (by omega) h1 _ (by show w.val * 2 = 64 + 2 * (w.val - 32); omega)
  split
  · exact key P2 128 (by omega) h2 _ (by show w.val * 2 = 128 + 2 * (w.val - 32 - 32); omega)
  · exact key P3 192 (by omega) h3 ⟨w.val - 32 - 32 - 32, by omega⟩ (by show w.val * 2 = 192 + 2 * (w.val - 32 - 32 - 32); omega)

variable (v148 : IVec S8x128 32) (v0 v1 : Vec Ideal S1x32x128 .fp8e4m3) (w0 w1 w2 w3 : Vec Ideal S1x8x128 .i32) (q0 q1 q2 q3 : Vec Ideal S1x1x2x128 .bf16)

/-! The four quarters of a span compute the same. -/
theorem quarter0 :
    (let a := k0_pay27 (F := Ideal) (k0_pay25 v148 v0 w0 q0) (Scalar.ofBits .f32 0x40C00000#32) k0_pay26
     let b := k0_pay28 v148 (k0_pay24 v0) w1 q1
     let c := k0_pay30 v148 v1 w2 q2
     let d := k0_pay31 v1
     let P := k0_pay32 v148 a b c d w3 q3
     let A := k0_pay33 v148 a b c d w3 q3
     let C := k0_pay34 v148 a b c d w3 q3
     k0_pay37 (k0_pay35 P A C) (k0_pay36 P A C) 2004318071#32) = bytes (tile v148 v0 v1 w0 w1 w2 w3 q0 q1 q2 q3) := rfl

theorem quarter1 :
    (let a := k0_pay40 (F := Ideal) (Scalar.ofBits .f32 0x40C00000#32) (k0_pay39 v148 v0 w0 q0)
     let b := k0_pay41 v148 (k0_pay38 v0) w1 q1
     let c := k0_pay43 v148 v1 w2 q2
     let d := k0_pay44 v1
     let P := k0_pay45 v148 a b c d w3 q3
     let A := k0_pay46 v148 a b c d w3 q3
     let C := k0_pay47 v148 a b c d w3 q3
     k0_pay51 (k0_pay48 P A C (Scalar.ofBits .bf16 0x4020#16)) (k0_pay49 P A C (Scalar.ofBits .bf16 0x4020#16)) k0_pay50) = bytes (tile v148 v0 v1 w0 w1 w2 w3 q0 q1 q2 q3) := rfl

theorem quarter2 :
    (let a := k0_pay55 (F := Ideal) (k0_pay53 v148 v0 w0 q0) k0_pay54
     let b := k0_pay56 v148 (k0_pay52 v0) w1 q1
     let c := k0_pay59 v148 (k0_pay57 v1) w2 q2
     let d := k0_pay60 (k0_pay57 v1)
     let P := k0_pay61 v148 a b c d w3 q3
     let A := k0_pay62 v148 a b c d w3 q3
     let C := k0_pay63 v148 a b c d w3 q3
     k0_pay67 (k0_pay65 P A C k0_pay64) (k0_pay66 P A C k0_pay64)) = bytes (tile v148 v0 v1 w0 w1 w2 w3 q0 q1 q2 q3) := rfl

theorem quarter3 :
    (let a := k0_pay71 (F := Ideal) (k0_pay69 v148 v0 w0 q0) k0_pay70
     let b := k0_pay72 v148 (k0_pay68 v0) w1 q1
     let c := k0_pay74 v148 (k0_pay73 v1) w2 q2
     let d := k0_pay75 (k0_pay73 v1)
     let P := k0_pay76 v148 a b c d w3 q3
     let A := k0_pay77 v148 a b c d w3 q3
     let C := k0_pay78 v148 a b c d w3 q3
     k0_pay80 P A C (k0_pay79 v148 a b c d w3 q3)) = codeT (tile v148 v0 v1 w0 w1 w2 w3 q0 q1 q2 q3) := rfl

end Cert.KernelIdeal.Val

end
-- ==== Proof.Codes.lean ====
/-
  The second phase: the spans of a tile of channels, whose codes a trip computes and stores.
-/
module

public import proofs.«01_k».proof.Proof.Blocks
public import proofs.«01_k».proof.Proof.Quarter

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (x : XTy) (s : STy)

theorem fin4 {P : Fin 4 → Prop} (h0 : P 0) (h1 : P 1) (h2 : P 2) (h3 : P 3) : ∀ a, P a := by
  intro a; fin_cases a <;> assumption

/-- The codes of the first `n` spans of a block, spans of a tile of channels counted together. -/
def IsC (b j n : ℕ) (Y : S1x1024x512.Idx → BitVec 8) : Prop :=
  ∀ ch w, ch.val / 128 * 4 + w.val / 128 < n → Y (ix3 0 ch w) = code x s b (1024 * j + ch.val) w.val

/-- The reciprocals of a tile's scales, times the common power of two. -/
def IsR (b j t : ℕ) (Y : S8x64x2x128.Idx → EReal) : Prop :=
  ∀ t' g p l, t'.val = t → Y (ix4 t' g p l) = (sf x s b g.val (1024 * j + 128 * t + l.val))⁻¹ * dn x s

/-- An element times the power of two gathered for it. -/
theorem elemx (b t c : ℕ) (v : EReal) (w : BitVec 32) (q : ℕ) (hq : q < 2) (hv : v = rd3 0 x b (2 * t + q) c)
    (hw : w = word (rd3 0 s b (2 * t) (c / 32)) (rd3 0 s b (2 * t + 1) (c / 32))) :
    v * Ideal.ofBits .bf16 (BitVec.extractLsb' (16 * q) 16 w) = vn x s b (2 * t + q) c := by
  rw [hw, word_half _ _ q hq, half_val, hv]
  unfold vn sc
  interval_cases q <;> rfl

/-- An element of a piece, times its scales. -/
theorem piece1 (i : grid0.Coords) (arg3 : Memref sig .tc .vmem S1x1024x1024 .fp8e4m3) (arg8 : Memref sig .tc .vmem S2x512x896 .i32) (arg12 : Memref sig .tc .vmem S8x64x2x128 .bf16)
    (t6 : Fin k0_t6_loop.trips) (t7 : Fin k0_t7_loop.trips)
    (v148 : IVec S8x128 32) (X_arg3 : BufTy.Contents (Elt Ideal) arg3.view.ty) (X_arg8 : BufTy.Contents (Elt Ideal) arg8.view.ty) (X_arg12 : BufTy.Contents (Elt Ideal) arg12.view.ty)
    (hX : IsX x (i 1).val (i 2).val (arg3.view.read (Elt Ideal) X_arg3)) (hW : IsW s ((i 1).val * 512 + 512) (arg8.view.read (Elt Ideal) X_arg8))
    (hC : IsCol (i 2).val t6.val v148) (hR : IsR x s (i 1).val (i 2).val t6.val (arg12.view.read (Elt Ideal) X_arg12))
    (r₁ : Fin 8) (r₂ : Fin 2) (inb1) (inb2) (inb3) (r : Fin 16) (l : Fin 128) :
    prodOf (arg3.view.readAt (Elt Ideal) (Rect.unit (s := S1x1024x1024) (k0_off18 t6 t7 (BitVec.ofNat 32 (32 * r₁.val))) S1x32x128.size inb1).toLoadRect X_arg3)
      (arg8.view.readAt (Elt Ideal) (Rect.unit (s := S2x512x896) (k0_off19 i t6 t7 (BitVec.ofNat 32 (2 * r₁.val)) (BitVec.ofNat 32 r₂.val)) S1x8x128.size inb2).toLoadRect X_arg8)
      (arg12.view.readAt (Elt Ideal) (Rect.unit (s := S8x64x2x128) (k0_off20 t6 t7 (BitVec.ofNat 32 (2 * r₁.val)) (BitVec.ofNat 32 r₂.val)) S1x1x2x128.size inb3).toLoadRect X_arg12)
      v148 r₂ r l = yn x s (i 1).val (256 * t7.val + 32 * r₁.val + 16 * r₂.val + r.val) (1024 * (i 2).val + 128 * t6.val + l.val) := by
  have g1 : (i 1).val < 2 := (i 1).isLt
  have g2 : (i 2).val < 28 := (i 2).isLt
  have h6 : t6.val < 8 := Nat.lt_of_lt_of_le t6.isLt k0_t6_abs.2.1
  have h7 : t7.val < 4 := Nat.lt_of_lt_of_le t7.isLt k0_t7_abs.2.1
  have hr1 := r₁.isLt
  have hr2 := r₂.isLt
  have hr := r.isLt
  have hl := l.isLt
  have hρ : r.val / 2 < 8 := by omega
  have hcol := hC ⟨r.val / 2, hρ⟩ l
  have hc : (col (v148 (ix2 ⟨r.val / 2, hρ⟩ l))).val < 128 := (col (v148 (ix2 ⟨r.val / 2, hρ⟩ l))).isLt
  unfold prodOf
  have b1 : 128 * t7.val + 16 * r₁.val + 8 * r₂.val + r.val / 2 < 512 := by omega
  have b2 : 128 * ((8 * (i 2).val + t6.val) / 32) + (col (v148 (ix2 ⟨r.val / 2, hρ⟩ l))).val < 896 := by omega
  have b3 : 16 * t7.val + 2 * r₁.val + r₂.val < 64 := by omega
  have e : (1024 * (i 2).val + 128 * t6.val + l.val) / 32 = 128 * ((8 * (i 2).val + t6.val) / 32) + (col (v148 (ix2 ⟨r.val / 2, hρ⟩ l))).val := by omega
  have E := elemx x s (i 1).val (128 * t7.val + 16 * r₁.val + 8 * r₂.val + r.val / 2) (1024 * (i 2).val + 128 * t6.val + l.val)
    (arg3.view.readAt (Elt Ideal) (Rect.unit (s := S1x1024x1024) (k0_off18 t6 t7 (BitVec.ofNat 32 (32 * r₁.val))) S1x32x128.size inb1).toLoadRect X_arg3 (ix3 0 ⟨16 * r₂.val + r.val, by omega⟩ l))
    (arg8.view.readAt (Elt Ideal) (Rect.unit (s := S2x512x896) (k0_off19 i t6 t7 (BitVec.ofNat 32 (2 * r₁.val)) (BitVec.ofNat 32 r₂.val)) S1x8x128.size inb2).toLoadRect X_arg8 (ix3 0 ⟨r.val / 2, hρ⟩ (col (v148 (ix2 ⟨r.val / 2, hρ⟩ l)))))
    (r.val % 2) (Nat.mod_lt _ (by decide)) ?_ ?_
  · rw [E]
    have Q := (readAt_of arg12.view X_arg12 inb3 (k0_off20_eq t6 t7 r₁ r₂) (ix4 0 0 0 l) (ix4 ⟨t6.val, h6⟩ ⟨_, b3⟩ 0 l)
      (fin4 rfl rfl rfl (by show l.val = 0 + l.val; omega))).trans (hR _ _ _ _ rfl)
    rw [Q]
    have ht : 2 * (128 * t7.val + 16 * r₁.val + 8 * r₂.val + r.val / 2) + r.val % 2 = 256 * t7.val + 32 * r₁.val + 16 * r₂.val + r.val := by omega
    have hg : (256 * t7.val + 32 * r₁.val + 16 * r₂.val + r.val) / 16 = 16 * t7.val + 2 * r₁.val + r₂.val := by omega
    unfold yn
    rw [ht, hg, mul_assoc, mul_comm (dn x s)]
  · rw [readAt_of _ _ _ (k0_off18_eq t6 t7 r₁) _ (ix3 0 ⟨256 * t7.val + 32 * r₁.val + (16 * r₂.val + r.val), by omega⟩ ⟨128 * t6.val + l.val, by omega⟩) (fin3 rfl rfl rfl), hX]
    congr 1
    · show 256 * t7.val + 32 * r₁.val + (16 * r₂.val + r.val) = _; omega
    · show 1024 * (i 2).val + (128 * t6.val + l.val) = _; omega
  · refine (readAt_of _ _ _ (k0_off19_eq i t6 t7 r₁ r₂) _ (ix3 ⟨(i 1).val, g1⟩ ⟨_, b1⟩ ⟨_, b2⟩) (fin3 rfl rfl rfl)).trans ?_
    rw [hW _ _ _ (by show (i 1).val * 512 + (128 * t7.val + 16 * r₁.val + 8 * r₂.val + r.val / 2) < _; omega), e]

/-- Storing a span's codes. -/
theorem isC_step (i : grid0.Coords) (t6 : Fin k0_t6_loop.trips) (t7 : Fin k0_t7_loop.trips) (arg5 : Memref sig .tc .vmem S1x1024x512 .i8) (f : arg5.view.ty.Contents (Elt Ideal))
    (hf : IsC x s (i 1).val (i 2).val (4 * t6.val + t7.val) (arg5.view.read (Elt Ideal) f)) (inb) (V : IVec S1x128x128 8)
    (hV : ∀ ch w, V (ix3 0 ch w) = code x s (i 1).val (1024 * (i 2).val + 128 * t6.val + ch.val) (128 * t7.val + w.val)) :
    IsC x s (i 1).val (i 2).val (4 * t6.val + (t7.val + 1)) (arg5.view.read (Elt Ideal) (arg5.view.writes (Elt Ideal) f [⟨Rect.unit (s := S1x1024x512) (k0_off21 t6 t7) S1x128x128.size inb, V⟩])) := by
  have h6 : t6.val < 8 := Nat.lt_of_lt_of_le t6.isLt k0_t6_abs.2.1
  have h7 : t7.val < 4 := Nat.lt_of_lt_of_le t7.isLt k0_t7_abs.2.1
  intro ch w h
  have hch := ch.isLt
  have hw := w.isLt
  by_cases hlt : ch.val / 128 * 4 + w.val / 128 < 4 * t6.val + t7.val
  · refine Eq.trans ?_ (hf ch w hlt)
    by_cases hc : ch.val / 128 = t6.val
    · exact View.read_writes_cons_unit_of_not_mem _ _ _ _ _ _ (k0_off21_eq t6 t7) 2 (.inl (by show w.val < 128 * t7.val; omega))
    · exact View.read_writes_cons_unit_of_not_mem _ _ _ _ _ _ (k0_off21_eq t6 t7) 1 (.inl (by show ch.val < 128 * t6.val; omega))
  · refine (View.read_writes_cons_unit_of_mem _ _ _ _ _ _ (ix3 0 ⟨ch.val - 128 * t6.val, by omega⟩ ⟨w.val - 128 * t7.val, by omega⟩) (k0_off21_eq t6 t7)
      (fin3 (by show 0 = 0 + 0; rfl) (by show ch.val = 128 * t6.val + (ch.val - 128 * t6.val); omega) (by show w.val = 128 * t7.val + (w.val - 128 * t7.val); omega))).trans ?_
    rw [hV]
    congr 1
    · show 1024 * (i 2).val + 128 * t6.val + (ch.val - 128 * t6.val) = _; omega
    · show 128 * t7.val + (w.val - 128 * t7.val) = _; omega

/-- A span's codes, from its elements. -/
theorem span_code (b c0 t : ℕ) (a0 a1 a2 : IVec S32x128 8) (a3 : IVec S8x128 32) (P0 P1 P2 P3 : FVec Ideal S64x128 .bf16)
    (e0 : a0 = bytes P0) (e1 : a1 = bytes P1) (e2 : a2 = bytes P2) (e3 : a3 = codeT P3)
    (h0 : ∀ (r : Fin 64) (l : Fin 128), P0 (ix2 r l) = clip6 (yn x s b (256 * t + r.val) (c0 + l.val)))
    (h1 : ∀ (r : Fin 64) (l : Fin 128), P1 (ix2 r l) = clip6 (yn x s b (256 * t + 64 + r.val) (c0 + l.val)))
    (h2 : ∀ (r : Fin 64) (l : Fin 128), P2 (ix2 r l) = clip6 (yn x s b (256 * t + 128 + r.val) (c0 + l.val)))
    (h3 : ∀ (r : Fin 64) (l : Fin 128), P3 (ix2 r l) = clip6 (yn x s b (256 * t + 192 + r.val) (c0 + l.val)))
    (ch : Fin 128) (w : Fin 128) : k0_pay11 a0 a1 a2 a3 (ix3 0 ch w) = code x s b (c0 + ch.val) (128 * t + w.val) := by
  subst e0 e1 e2 e3
  refine (pay11_eq P0 P1 P2 P3 (fun r l => yn x s b (256 * t + r.val) (c0 + l.val)) h0 ?_ ?_ ?_ ch w).trans ?_
  · intro r l; exact (h1 r l).trans (by rw [Nat.add_assoc])
  · intro r l; exact (h2 r l).trans (by rw [Nat.add_assoc])
  · intro r l; exact (h3 r l).trans (by rw [Nat.add_assoc])
  · unfold code
    have e : 2 * (128 * t + w.val) = 256 * t + 2 * w.val := by omega
    rw [e]
    rfl

abbrev inv_t7 (c : Dev nD) (i : grid0.Coords) (t6 : ℕ) (arg3 : Memref sig .tc .vmem S1x1024x1024 .fp8e4m3) (arg8 : Memref sig .tc .vmem S2x512x896 .i32) (arg12 : Memref sig .tc .vmem S8x64x2x128 .bf16) (arg5 : Memref sig .tc .vmem S1x1024x512 .i8)
    (X_arg3 : BufTy.Contents (Elt Ideal) arg3.view.ty) (X_arg8 : BufTy.Contents (Elt Ideal) arg8.view.ty) (X_arg12 : BufTy.Contents (Elt Ideal) arg12.view.ty) (k : ℕ) : sProp 𝕄 :=
  iprop((arg3.view.loc (c : Thread nD τ) ↦[arg3.view.set]{fullShare} X_arg3) ∗ (arg8.view.loc (c : Thread nD τ) ↦[arg8.view.set]{fullShare} X_arg8) ∗ (arg12.view.loc (c : Thread nD τ) ↦[arg12.view.set]{fullShare} X_arg12)
    ∗ (∃ f, (arg5.view.loc (c : Thread nD τ) ↦[arg5.view.set]{fullShare} f) ∗ ⌜IsC x s (i 1).val (i 2).val (4 * t6 + k) (arg5.view.read (Elt Ideal) f)⌝))

set_option warn.classDefReducibility false in
/-- The spans of a tile. -/
@[sl_loop] def val_t7 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole) (arg1 : BitVec 32) (k0_h4 : k0_cond4 i = 1#1) (k0_t6 : Fin k0_t6_loop.trips) (v76 v78 v135 : BitVec 32) (v148 : IVec S8x128 32)
    (X_arg3 : BufTy.Contents (Elt Ideal) arg3.view.ty) (X_arg8 : BufTy.Contents (Elt Ideal) arg8.view.ty) (X_arg12 : BufTy.Contents (Elt Ideal) arg12.view.ty)
    (hX : IsX x (i 1).val (i 2).val (arg3.view.read (Elt Ideal) X_arg3)) (hW : IsW s ((i 1).val * 512 + 512) (arg8.view.read (Elt Ideal) X_arg8))
    (hC : IsCol (i 2).val k0_t6.val v148) (hR : IsR x s (i 1).val (i 2).val k0_t6.val (arg12.view.read (Elt Ideal) X_arg12)) :
    LoopInvTy_k0_t7 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg1 k0_h4 k0_t6 v76 v78 v135 v148 0#32 1#32 where
  inv k _ := inv_t7 x s c i k0_t6.val arg3 arg8 arg12 arg5 X_arg3 X_arg8 X_arg12 k
  step k acc := by
    have P := piece1 x s i arg3 arg8 arg12 k0_t6 k v148 X_arg3 X_arg8 X_arg12 hX hW hC hR
    have Q (e₀ : ℕ) (r₁ : Fin 8) (r₂ : Fin 2) (inb1) (inb2) (inb3) (r : Fin 16) (l : Fin 128) (e₁ : ℕ) (he : 256 * k.val + 32 * r₁.val + 16 * r₂.val = e₀ + e₁) :=
      (P r₁ r₂ inb1 inb2 inb3 r l).trans (congrArg (fun t => yn x s (i 1).val t (1024 * (i 2).val + 128 * k0_t6.val + l.val))
        (show 256 * k.val + 32 * r₁.val + 16 * r₂.val + r.val = e₀ + (e₁ + r.val) by omega))
    unfold k0_t7_body
    iintro ⟨HR_arg3, HR_arg8, HR_arg12, ⟨%f_arg5, HW_arg5, %hF⟩⟩
    sl_exec
    sl_step
    isplitl [HR_arg3]; · iexact HR_arg3
    isplitl [HR_arg8]; · iexact HR_arg8
    isplitl [HR_arg12]; · iexact HR_arg12
    iexists _; isplitl [HW_arg5]; · iexact HW_arg5
    ipureintro
    refine isC_step x s i k0_t6 k arg5 f_arg5 hF _ _ ?_
    intro ch w
    refine span_code x s (i 1).val (1024 * (i 2).val + 128 * k0_t6.val) k.val _ _ _ _ _ _ _ _
      (quarter0 _ _ _ _ _ _ _ _ _ _ _) (quarter1 _ _ _ _ _ _ _ _ _ _ _) (quarter2 _ _ _ _ _ _ _ _ _ _ _) (quarter3 _ _ _ _ _ _ _ _ _ _ _) ?_ ?_ ?_ ?_ ch w
    · exact fun r l => tile_eq _ _ _ _ _ _ _ _ _ _ _ (fun r l => yn x s (i 1).val (256 * k.val + r.val) (1024 * (i 2).val + 128 * k0_t6.val + l.val))
        (fun r l => (Q (256 * k.val) 0 0 _ _ _ r l 0 (by show 256 * k.val + 32 * 0 + 16 * 0 = _; omega)).trans (by rw [Nat.zero_add]))
        (fun r l => Q (256 * k.val) 0 1 _ _ _ r l 16 (by show 256 * k.val + 32 * 0 + 16 * 1 = _; omega))
        (fun r l => Q (256 * k.val) 1 0 _ _ _ r l 32 (by show 256 * k.val + 32 * 1 + 16 * 0 = _; omega))
        (fun r l => Q (256 * k.val) 1 1 _ _ _ r l 48 (by show 256 * k.val + 32 * 1 + 16 * 1 = _; omega))
        r l
    · exact fun r l => tile_eq _ _ _ _ _ _ _ _ _ _ _ (fun r l => yn x s (i 1).val (256 * k.val + 64 + r.val) (1024 * (i 2).val + 128 * k0_t6.val + l.val))
        (fun r l => (Q (256 * k.val + 64) 2 0 _ _ _ r l 0 (by show 256 * k.val + 32 * 2 + 16 * 0 = _; omega)).trans (by rw [Nat.zero_add]))
        (fun r l => Q (256 * k.val + 64) 2 1 _ _ _ r l 16 (by show 256 * k.val + 32 * 2 + 16 * 1 = _; omega))
        (fun r l => Q (256 * k.val + 64) 3 0 _ _ _ r l 32 (by show 256 * k.val + 32 * 3 + 16 * 0 = _; omega))
        (fun r l => Q (256 * k.val + 64) 3 1 _ _ _ r l 48 (by show 256 * k.val + 32 * 3 + 16 * 1 = _; omega))
        r l
    · exact fun r l => tile_eq _ _ _ _ _ _ _ _ _ _ _ (fun r l => yn x s (i 1).val (256 * k.val + 128 + r.val) (1024 * (i 2).val + 128 * k0_t6.val + l.val))
        (fun r l => (Q (256 * k.val + 128) 4 0 _ _ _ r l 0 (by show 256 * k.val + 32 * 4 + 16 * 0 = _; omega)).trans (by rw [Nat.zero_add]))
        (fun r l => Q (256 * k.val + 128) 4 1 _ _ _ r l 16 (by show 256 * k.val + 32 * 4 + 16 * 1 = _; omega))
        (fun r l => Q (256 * k.val + 128) 5 0 _ _ _ r l 32 (by show 256 * k.val + 32 * 5 + 16 * 0 = _; omega))
        (fun r l => Q (256 * k.val + 128) 5 1 _ _ _ r l 48 (by show 256 * k.val + 32 * 5 + 16 * 1 = _; omega))
        r l
    · exact fun r l => tile_eq _ _ _ _ _ _ _ _ _ _ _ (fun r l => yn x s (i 1).val (256 * k.val + 192 + r.val) (1024 * (i 2).val + 128 * k0_t6.val + l.val))
        (fun r l => (Q (256 * k.val + 192) 6 0 _ _ _ r l 0 (by show 256 * k.val + 32 * 6 + 16 * 0 = _; omega)).trans (by rw [Nat.zero_add]))
        (fun r l => Q (256 * k.val + 192) 6 1 _ _ _ r l 16 (by show 256 * k.val + 32 * 6 + 16 * 1 = _; omega))
        (fun r l => Q (256 * k.val + 192) 7 0 _ _ _ r l 32 (by show 256 * k.val + 32 * 7 + 16 * 0 = _; omega))
        (fun r l => Q (256 * k.val + 192) 7 1 _ _ _ r l 48 (by show 256 * k.val + 32 * 7 + 16 * 1 = _; omega))
        r l

end Cert.KernelIdeal.Val

end
-- ==== Proof.Scales.lean ====
/-
  The second phase: a block's tiles of channels, with the scales of their groups; and the count behind the global scale.
-/
module

public import proofs.«01_k».proof.Proof.Codes

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (x : XTy) (s : STy)

/-- The two arrays the kernel is given. -/
class Inp where
  x : XTy
  s : STy

/-- The accumulator over the first `n` steps, as it is stored between grid steps. -/
def IsAcc (n : ℕ) (Y : S8x2x128.Idx → EReal) : Prop :=
  ∀ r p l y, Y (ix3 r p l) ≤ y ↔ 0 ≤ y ∧ ∀ m < n, am x s (m / 8 / 224) (8 * (m % 8) + r.val) (128 * (m / 8 % 224) + l.val) ≤ y

/-- Over every step, the accumulator's maximum is the maximum. -/
theorem acc_top (a : Vec Ideal S8x2x128 .bf16) (h : IsAcc x s 3584 a) (r : Fin 8) (l : Fin 128) : k0_pay5 (F := Ideal) a (ix2 r l) = zz x s := by
  refine (pay5_eq a (top x s) (fun y => ?_) r l).trans rfl
  rw [top_le]
  constructor
  · intro k b hb t ht c hc
    have := ((h ⟨t / 16 % 8, by omega⟩ 1 ⟨c % 128, by omega⟩ y).1 (k _ _)).2 ((b * 224 + c / 128) * 8 + t / 16 / 8) (by omega)
    dsimp only at this
    rw [show ((b * 224 + c / 128) * 8 + t / 16 / 8) / 8 / 224 = b by omega, show 8 * (((b * 224 + c / 128) * 8 + t / 16 / 8) % 8) + t / 16 % 8 = t / 16 by omega,
      show 128 * (((b * 224 + c / 128) * 8 + t / 16 / 8) / 8 % 224) + c % 128 = c by omega, am_le] at this
    have := this (t % 16) (by omega)
    rwa [show 16 * (t / 16) + t % 16 = t by omega] at this
  · intro k r l
    have hr := r.isLt
    have hl := l.isLt
    refine (h r 1 l y).2 ⟨(av_nonneg _).trans (k 0 (by omega) 0 (by omega) 0 (by omega)), fun m hm => ?_⟩
    rw [am_le]
    exact fun e he => k _ (by omega) _ (by omega) _ (by omega)

theorem foldl_ind {σ : Type} (P : ℕ → σ → Prop) : ∀ (n : ℕ) (g : Fin n → σ → σ) (init : σ), P 0 init →
    (∀ k acc, P k.val acc → P (k.val + 1) (g k acc)) → P n ((List.finRange n).foldl (fun acc k => g k acc) init)
  | 0, _, _, h, _ => by simpa using h
  | n + 1, g, init, h, hs => by
    rw [List.finRange_succ_last, List.foldl_append, List.foldl_map]
    exact hs (Fin.last n) _ (foldl_ind P n (fun k => g k.castSucc) init h fun k acc => hs k.castSucc acc)

/-- The count of the powers of two below the global ratio. -/
theorem count_fold (a : Vec Ideal S8x2x128 .bf16) (hA : IsAcc x s 3584 a) (r : Fin 8) (l : Fin 128) :
    Scf.fold (fun (k : Fin k0_t5_loop.trips) acc => k0_pay7 (F := Ideal) a k acc) k0_pay6 (ix2 r l)
      = cnt (zz x s) (Scf.trips k0_t5_loop.lb k0_t5_loop.ub k0_t5_loop.st) := by
  rw [Scf.fold_eq]
  exact foldl_ind (fun n (acc : IVec S8x128 32) => acc (ix2 r l) = cnt (zz x s) n) _ _ _ (pay6_eq r l)
    fun k acc h => pay7_eq a (zz x s) r l (acc_top x s a hA r l) k acc h

/-- The scales of the first `n` channels of a block. -/
def IsK (b j n : ℕ) (Y : S1x1024x64.Idx → EReal) : Prop :=
  ∀ ch g, ch.val < n → Y (ix3 0 ch g) = cs x s b g.val (1024 * j + ch.val)

section
variable (i : grid0.Coords) (t6 : Fin k0_t6_loop.trips) (arg9 : Memref sig .tc .vmem S2x28x64x2x1024 .bf16) (X_arg9 : arg9.view.ty.Contents (Elt Ideal))
  (hG : IsG x s 3584 (arg9.view.read (Elt Ideal) X_arg9)) (v67 : FVec Ideal S8x128 .f32) (hd : ∀ r l, v67 (ix2 r l) = dn x s) (inb9)
include hG

/-- A group's scale. -/
theorem group_cs (g : Fin 64) (l : Fin 128) :
    csOf (arg9.view.readAt (Elt Ideal) (Rect.unit (s := S2x28x64x2x1024) (k0_off15 i t6) S1x1x64x2x128.size inb9).toLoadRect X_arg9 (ix5 0 0 g 1 l)) (dn x s)
      = cs x s (i 1).val g.val (1024 * (i 2).val + 128 * t6.val + l.val) := by
  have g1 : (i 1).val < 2 := (i 1).isLt
  have g2 : (i 2).val < 28 := (i 2).isLt
  have h6 : t6.val < 8 := Nat.lt_of_lt_of_le t6.isLt k0_t6_abs.2.1
  have hg := g.isLt
  have hl := l.isLt
  rw [readAt_of arg9.view X_arg9 inb9 (k0_off15_eq i t6) (ix5 0 0 g 1 l) (ix5 ⟨(i 1).val, g1⟩ ⟨(i 2).val, g2⟩ g 1 ⟨128 * t6.val + l.val, by omega⟩)
    (fin5 rfl rfl (by show g.val = 0 + g.val; omega) rfl rfl), hG _ _ _ _ _ (by unfold lin; show (((i 1).val * 224 + 8 * (i 2).val + (128 * t6.val + l.val) / 128) * 8 + g.val / 8) < 3584; omega)]
  show csOf (am x s (i 1).val g.val (1024 * (i 2).val + (128 * t6.val + l.val))) (dn x s) = _
  rw [← Nat.add_assoc]
  rfl

include hd

/-- Storing a tile's scales. -/
theorem isK_step (arg6 : Memref sig .tc .vmem S1x1024x64 .fp8e4m3) (f : arg6.view.ty.Contents (Elt Ideal)) (hf : IsK x s (i 1).val (i 2).val (128 * t6.val) (arg6.view.read (Elt Ideal) f)) (inb) :
    IsK x s (i 1).val (i 2).val (128 * (t6.val + 1)) (arg6.view.read (Elt Ideal) (arg6.view.writes (Elt Ideal) f
      [⟨Rect.unit (s := S1x1024x64) (k0_off16 t6) S1x128x64.size inb, k0_pay83 (F := Ideal) v67
        (arg9.view.readAt (Elt Ideal) (Rect.unit (s := S2x28x64x2x1024) (k0_off15 i t6) S1x1x64x2x128.size inb9).toLoadRect X_arg9)⟩])) := by
  intro ch g h
  have hg := g.isLt
  by_cases hlt : ch.val < 128 * t6.val
  · refine Eq.trans ?_ (hf ch g hlt)
    exact View.read_writes_cons_unit_of_not_mem _ _ _ _ _ _ (k0_off16_eq t6) 1 (.inl (by show ch.val < 128 * t6.val; omega))
  · refine (View.read_writes_cons_unit_of_mem _ _ _ _ _ _ (ix3 0 ⟨ch.val - 128 * t6.val, by omega⟩ g) (k0_off16_eq t6)
      (fin3 (by show 0 = 0 + 0; rfl) (by show ch.val = 128 * t6.val + (ch.val - 128 * t6.val); omega) (by show g.val = 0 + g.val; omega))).trans ?_
    refine (pay83_eq (dn x s) v67 hd _ _ _).trans ((group_cs x s i t6 arg9 X_arg9 hG inb9 g ⟨ch.val - 128 * t6.val, by omega⟩).trans ?_)
    congr 1
    show 1024 * (i 2).val + 128 * t6.val + (ch.val - 128 * t6.val) = _
    omega

/-- Storing a tile's reciprocals. -/
theorem isR_step (arg12 : Memref sig .tc .vmem S8x64x2x128 .bf16) (f : arg12.view.ty.Contents (Elt Ideal)) (inb) :
    IsR x s (i 1).val (i 2).val t6.val (arg12.view.read (Elt Ideal) (arg12.view.writes (Elt Ideal) f
      [⟨Rect.unit (s := S8x64x2x128) (k0_off17 t6) S1x64x2x128.size inb,
        k0_pay89 (F := Ideal)
          (k0_pay85 v67 (arg9.view.readAt (Elt Ideal) (Rect.unit (s := S2x28x64x2x1024) (k0_off15 i t6) S1x1x64x2x128.size inb9).toLoadRect X_arg9))
          (k0_pay86 v67 (arg9.view.readAt (Elt Ideal) (Rect.unit (s := S2x28x64x2x1024) (k0_off15 i t6) S1x1x64x2x128.size inb9).toLoadRect X_arg9))⟩])) := by
  intro t' g p l ht
  refine (View.read_writes_cons_unit_of_mem _ _ _ _ _ _ (ix4 0 g p l) (k0_off17_eq t6)
    (fin4 (by show t'.val = t6.val + 0; omega) (by show g.val = 0 + g.val; omega) (by show p.val = 0 + p.val; omega) (by show l.val = 0 + l.val; omega))).trans ?_
  refine (pay89_eq (dn x s) v67 hd _ _ _ _).trans ?_
  rw [group_cs x s i t6 arg9 X_arg9 hG inb9 g l]
  rfl
end

/-- The first row of the words a tile gathers from. -/
def rowOf (arg2 v76 : BitVec 32) : BitVec 32 :=
  let v115 : BitVec 32 := Scalar.muli arg2 8#32
  let v116 : BitVec 32 := Scalar.addi v115 v76
  let v117 : BitVec 32 := Scalar.divsi v116 32#32
  let v118 : BitVec 1 := Scalar.cmpi .sgt v116 0#32
  let v119 : BitVec 32 := Scalar.extui v118
  let v120 : BitVec 1 := Scalar.cmpi .slt v116 0#32
  let v121 : BitVec 32 := Scalar.extui v120
  let v122 : BitVec 32 := Scalar.subi v119 v121
  let v123 : BitVec 1 := Scalar.cmpi .sgt 32#32 0#32
  let v124 : BitVec 32 := Scalar.extui v123
  let v125 : BitVec 1 := Scalar.cmpi .slt 32#32 0#32
  let v126 : BitVec 32 := Scalar.extui v125
  let v127 : BitVec 32 := Scalar.subi v124 v126
  let v128 : BitVec 1 := Scalar.cmpi .ne v122 v127
  let v129 : BitVec 32 := Scalar.remsi v116 32#32
  let v130 : BitVec 1 := Scalar.cmpi .ne v129 0#32
  let v131 : BitVec 1 := Scalar.andi v128 v130
  let v132 : BitVec 32 := Scalar.subi v117 1#32
  let v133 : BitVec 32 := Scalar.select v131 v132 v117
  let v134 : BitVec 32 := Scalar.muli v133 128#32
  let v135 : BitVec 32 := v134
  v135

abbrev inv_t6 (c : Dev nD) (i : grid0.Coords) (arg3 : Memref sig .tc .vmem S1x1024x1024 .fp8e4m3) (arg8 : Memref sig .tc .vmem S2x512x896 .i32) (arg9 : Memref sig .tc .vmem S2x28x64x2x1024 .bf16)
    (arg6 : Memref sig .tc .vmem S1x1024x64 .fp8e4m3) (arg12 : Memref sig .tc .vmem S8x64x2x128 .bf16) (arg5 : Memref sig .tc .vmem S1x1024x512 .i8)
    (X_arg3 : BufTy.Contents (Elt Ideal) arg3.view.ty) (X_arg8 : BufTy.Contents (Elt Ideal) arg8.view.ty) (X_arg9 : BufTy.Contents (Elt Ideal) arg9.view.ty) (k : ℕ) : sProp 𝕄 :=
  iprop((arg3.view.loc (c : Thread nD τ) ↦[arg3.view.set]{fullShare} X_arg3) ∗ (arg8.view.loc (c : Thread nD τ) ↦[arg8.view.set]{fullShare} X_arg8) ∗ (arg9.view.loc (c : Thread nD τ) ↦[arg9.view.set]{fullShare} X_arg9)
    ∗ (∃ f, (arg6.view.loc (c : Thread nD τ) ↦[arg6.view.set]{fullShare} f) ∗ ⌜IsK x s (i 1).val (i 2).val (128 * k) (arg6.view.read (Elt Ideal) f)⌝)
    ∗ (∃ f, (arg12.view.loc (c : Thread nD τ) ↦[arg12.view.set]{fullShare} f))
    ∗ (∃ f, (arg5.view.loc (c : Thread nD τ) ↦[arg5.view.set]{fullShare} f) ∗ ⌜IsC x s (i 1).val (i 2).val (4 * k) (arg5.view.read (Elt Ideal) f)⌝))

set_option warn.classDefReducibility false in
/-- The tiles of a block. -/
@[sl_loop] def val_t6 [inp : Inp] (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole) (arg1 : BitVec 32) (k0_h4 : k0_cond4 i = 1#1) (v43_raw : Vec Ideal S8x2x128 .bf16) (v56 : IVec S8x128 32)
    (X_arg3 : BufTy.Contents (Elt Ideal) arg3.view.ty) (X_arg8 : BufTy.Contents (Elt Ideal) arg8.view.ty) (X_arg9 : BufTy.Contents (Elt Ideal) arg9.view.ty)
    (hX : IsX inp.x (i 1).val (i 2).val (arg3.view.read (Elt Ideal) X_arg3)) (hW : IsW inp.s ((i 1).val * 512 + 512) (arg8.view.read (Elt Ideal) X_arg8))
    (hG : IsG inp.x inp.s 3584 (arg9.view.read (Elt Ideal) X_arg9)) (hA : IsAcc inp.x inp.s 3584 v43_raw) (hN : ∀ r l, v56 (ix2 r l) = cnt (zz inp.x inp.s) (Scf.trips k0_t5_loop.lb k0_t5_loop.ub k0_t5_loop.st)) :
    LoopInvTy_k0_t6 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg1 (BitVec.ofNat 32 (i 2).val) k0_pay91 k0_h4 v43_raw v56 where
  inv k _ := inv_t6 inp.x inp.s c i arg3 arg8 arg9 arg6 arg12 arg5 X_arg3 X_arg8 X_arg9 k
  step k acc := by
    have g2 : (i 2).val < 28 := (i 2).isLt
    have h6 : k.val < 8 := Nat.lt_of_lt_of_le k.isLt k0_t6_abs.2.1
    have e5 : Scf.trips k0_t5_loop.lb k0_t5_loop.ub k0_t5_loop.st = 255 := by decide +kernel
    have hd : ∀ r l, k0_pay9 (F := Ideal) v43_raw v56 (ix2 r l) = dn inp.x inp.s := fun r l =>
      pay9_eq v43_raw inp.x inp.s v56 r l (acc_top inp.x inp.s v43_raw hA r l) ((hN r l).trans (by rw [e5]))
    have hC : IsCol (i 2).val k.val (k0_pay90 (BitVec.ofNat 32 (i 2).val) k0_pay91 (Scalar.addi 0#32 (Scalar.muli (Scf.iv 0#32 1#32 k) 1#32))) := fun r l =>
      pay90_eq ⟨(i 2).val, g2⟩ ⟨k.val, h6⟩ _ (by revert k; decide +kernel) r l
    unfold k0_t6_body
    rw [k0_part25_eq_skeleton, k0_part26_eq_skeleton]
    iintro ⟨HR_arg3, HR_arg8, HR_arg9, ⟨%f_arg6, HW_arg6, %hK⟩, ⟨%f_arg12, HW_arg12⟩, ⟨%f_arg5, HW_arg5, %hF⟩⟩
    have hR := isR_step inp.x inp.s i k arg9 X_arg9 hG (k0_pay9 (F := Ideal) v43_raw v56) hd (k0_off15_inb i k k0_h4) arg12 f_arg12 (k0_off17_inb i k k0_h4)
    have hK' := isK_step inp.x inp.s i k arg9 X_arg9 hG (k0_pay9 (F := Ideal) v43_raw v56) hd (k0_off15_inb i k k0_h4) arg6 f_arg6 hK (k0_off16_inb i k k0_h4)
    have hF0 : IsC inp.x inp.s (i 1).val (i 2).val (4 * k.val + 0) (arg5.view.read (Elt Ideal) f_arg5) := hF
    let L := val_t7 inp.x inp.s c i arg3 harg3 arg4 harg4 arg5 harg5 arg6 harg6 arg7 harg7 arg8 harg8 arg9 harg9 arg10 harg10 arg11 harg11 arg12 harg12 arg1 k0_h4 k (Scalar.addi 0#32 (Scalar.muli (Scf.iv 0#32 1#32 k) 1#32))
      (Scalar.muli (Scalar.addi 0#32 (Scalar.muli (Scf.iv 0#32 1#32 k) 1#32)) 128#32)
      (rowOf (BitVec.ofNat 32 (i 2).val) (Scalar.addi 0#32 (Scalar.muli (Scf.iv 0#32 1#32 k) 1#32))) _ X_arg3 X_arg8 _ hX hW hC hR
    sl_exec
    sl_step
    have e7 : 4 * k.val + Scf.trips k0_t7_loop.lb k0_t7_loop.ub k0_t7_loop.st = 4 * (k.val + 1) := by
      have e' : Scf.trips k0_t7_loop.lb k0_t7_loop.ub k0_t7_loop.st = 4 := by decide +kernel
      omega
    rw [e7] at hL4
    isplitl [HR_arg3]; · iexact HR_arg3
    isplitl [HR_arg8]; · iexact HR_arg8
    isplitl [HR_arg9]; · iexact HR_arg9
    isplitl [HW_arg6]
    · iexists _; isplitl [HW_arg6]; · iexact HW_arg6
      ipureintro
      exact hK'
    isplitl [HW_arg12]; · iexists _; iexact HW_arg12
    iexists _; isplitl [HW_arg5]; · iexact HW_arg5
    ipureintro
    exact hL4

end Cert.KernelIdeal.Val

end
-- ==== Proof.Body.lean ====
/-
  One grid step on the contents of the buffers: what it needs and what it leaves, in each of the two phases.
-/
module

public import proofs.«01_k».proof.Proof.Scales

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (x : XTy) (s : STy)

/-- The accumulator as the loop carries it. -/
theorem isA_pay1 (n : ℕ) (a : Vec Ideal S8x2x128 .bf16) (h : IsAcc x s n a) : IsA x s n (k0_pay1 (F := Ideal) a) := by
  intro r l y
  rw [pay1_eq]
  exact h _ _ _ _

/-- The accumulator as it is stored. -/
theorem isAcc_pay4 (n : ℕ) (a : FVec Ideal S16x128 .bf16) (h : IsA x s n a) : IsAcc x s n (k0_pay4 (F := Ideal) a) := by
  intro r p l y
  rw [pay4_eq, h]
  have e : (2 * r.val + p.val) / 2 = r.val := by omega
  dsimp only
  rw [e]

/-- The cleared accumulator. -/
theorem isAcc_zero : IsAcc x s 0 (constant (F := Ideal) S8x2x128 .bf16 0x0000#16) := by
  intro r p l y
  have e : constant (F := Ideal) S8x2x128 .bf16 0x0000#16 (ix3 r p l) = 0 := by
    show Ideal.ofBits .bf16 0x0000#16 = 0
    simp [Ideal.ofBits, Ideal.ieee]
  rw [e]
  exact ⟨fun h => ⟨h, fun m hm => absurd hm (Nat.not_lt_zero m)⟩, fun h => h.1⟩

section
variable (arg10 : Memref sig .tc .vmem S8x2x128 .bf16)

/-- The box that is the whole accumulator. -/
abbrev box10 : Rect S8x2x128 := Rect.unit (s := S8x2x128) ![0, 0, 0] S8x2x128.size inb_S8x2x128_S8x2x128_0_0_0

/-- Storing the accumulator whole. -/
theorem stored10 (n : ℕ) (f : arg10.view.ty.Contents (Elt Ideal)) (w : Vec Ideal S8x2x128 .bf16) (L) (h : IsAcc x s n w) :
    IsAcc x s n (arg10.view.read (Elt Ideal) (arg10.view.writes (Elt Ideal) f (⟨box10, w⟩ :: L))) := by
  intro r p l y
  have e : arg10.view.read (Elt Ideal) (arg10.view.writes (Elt Ideal) f (⟨box10, w⟩ :: L)) (ix3 r p l) = w (ix3 r p l) := by
    refine View.read_writes_cons_unit_of_mem arg10.view f inb_S8x2x128_S8x2x128_0_0_0 w L (ix3 r p l) (ix3 r p l) rfl ?_
    exact (fin3 (by show r.val = 0 + r.val; omega) (by show p.val = 0 + p.val; omega) (by show l.val = 0 + l.val; omega))
  rw [e]
  exact h r p l y

/-- Loading the accumulator whole. -/
theorem loaded10 (n : ℕ) (f : arg10.view.ty.Contents (Elt Ideal)) (h : IsAcc x s n (arg10.view.read (Elt Ideal) f)) :
    IsAcc x s n (arg10.view.readAt (Elt Ideal) box10.toLoadRect f) := by
  intro r p l y
  have e : arg10.view.readAt (Elt Ideal) box10.toLoadRect f (ix3 r p l) = arg10.view.read (Elt Ideal) f (ix3 r p l) :=
    readAt_of arg10.view f inb_S8x2x128_S8x2x128_0_0_0 rfl (ix3 r p l) (ix3 r p l)
      (fin3 (by show r.val = 0 + r.val; omega) (by show p.val = 0 + p.val; omega) (by show l.val = 0 + l.val; omega))
  rw [e]
  exact h r p l y
end

/-- The condition of the second `scf.if` (the accumulator is cleared at the first point), as the kernel computes it. -/
def cond2 (i : grid0.Coords) : BitVec 1 :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32)) : BitVec 32) 0#32

/-- Every element is the global scale. -/
def IsE (Y : S8x128.Idx → EReal) : Prop := ∀ r l, Y (ix2 r l) = gs x s

/-- The buffers, each at its contents. -/
abbrev held (c : Dev nD) (arg3 : Memref sig .tc .vmem S1x1024x1024 .fp8e4m3) (arg4 : Memref sig .tc .vmem S1x1024x896 .i8) (arg5 : Memref sig .tc .vmem S1x1024x512 .i8) (arg6 : Memref sig .tc .vmem S1x1024x64 .fp8e4m3) (arg7 : Memref sig .tc .vmem S8x128 .f32) (arg8 : Memref sig .tc .vmem S2x512x896 .i32) (arg9 : Memref sig .tc .vmem S2x28x64x2x1024 .bf16) (arg10 : Memref sig .tc .vmem S8x2x128 .bf16) (arg11 : Memref sig .tc .vmem S8x8x64x2x128 .bf16) (arg12 : Memref sig .tc .vmem S8x64x2x128 .bf16)
    (X_arg3 : BufTy.Contents (Elt Ideal) arg3.view.ty) (X_arg4 : BufTy.Contents (Elt Ideal) arg4.view.ty) (f_arg5 : BufTy.Contents (Elt Ideal) arg5.view.ty) (f_arg6 : BufTy.Contents (Elt Ideal) arg6.view.ty) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) : sProp 𝕄 :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12))

/-- What a step of the first phase leaves. -/
abbrev left0 (c : Dev nD) (i : grid0.Coords) (arg3 : Memref sig .tc .vmem S1x1024x1024 .fp8e4m3) (arg4 : Memref sig .tc .vmem S1x1024x896 .i8) (arg5 : Memref sig .tc .vmem S1x1024x512 .i8) (arg6 : Memref sig .tc .vmem S1x1024x64 .fp8e4m3) (arg7 : Memref sig .tc .vmem S8x128 .f32) (arg8 : Memref sig .tc .vmem S2x512x896 .i32) (arg9 : Memref sig .tc .vmem S2x28x64x2x1024 .bf16) (arg10 : Memref sig .tc .vmem S8x2x128 .bf16) (arg11 : Memref sig .tc .vmem S8x8x64x2x128 .bf16) (arg12 : Memref sig .tc .vmem S8x64x2x128 .bf16)
    (X_arg3 : BufTy.Contents (Elt Ideal) arg3.view.ty) (X_arg4 : BufTy.Contents (Elt Ideal) arg4.view.ty) : sProp 𝕄 :=
  iprop((arg3.view.loc (c : Thread nD τ) ↦[arg3.view.set]{fullShare} X_arg3) ∗ (arg4.view.loc (c : Thread nD τ) ↦[arg4.view.set]{fullShare} X_arg4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f) ∗ ⌜IsW s ((i 1).val * 512 + 16 * Scf.trips k0_t1_loop.lb k0_t1_loop.ub k0_t1_loop.st) (arg8.view.read (Elt Ideal) f)⌝) ∗ (∃ f, (arg9.view.loc (c : Thread nD τ) ↦[arg9.view.set]{fullShare} f) ∗ ⌜IsG x s (lin (i 1).val (i 2).val (Scf.trips k0_t2_loop.lb k0_t2_loop.ub k0_t2_loop.st) 0) (arg9.view.read (Elt Ideal) f)⌝) ∗ (∃ f, (arg10.view.loc (c : Thread nD τ) ↦[arg10.view.set]{fullShare} f) ∗ ⌜IsAcc x s (lin (i 1).val (i 2).val (Scf.trips k0_t2_loop.lb k0_t2_loop.ub k0_t2_loop.st) 0) (arg10.view.read (Elt Ideal) f)⌝) ∗ (∃ f, (arg11.view.loc (c : Thread nD τ) ↦[arg11.view.set]{fullShare} f)) ∗ (∃ f, (arg12.view.loc (c : Thread nD τ) ↦[arg12.view.set]{fullShare} f)))

/-- What a step of the second phase leaves. -/
abbrev left1 (c : Dev nD) (i : grid0.Coords) (arg3 : Memref sig .tc .vmem S1x1024x1024 .fp8e4m3) (arg4 : Memref sig .tc .vmem S1x1024x896 .i8) (arg5 : Memref sig .tc .vmem S1x1024x512 .i8) (arg6 : Memref sig .tc .vmem S1x1024x64 .fp8e4m3) (arg7 : Memref sig .tc .vmem S8x128 .f32) (arg8 : Memref sig .tc .vmem S2x512x896 .i32) (arg9 : Memref sig .tc .vmem S2x28x64x2x1024 .bf16) (arg10 : Memref sig .tc .vmem S8x2x128 .bf16) (arg11 : Memref sig .tc .vmem S8x8x64x2x128 .bf16) (arg12 : Memref sig .tc .vmem S8x64x2x128 .bf16)
    (X_arg3 : BufTy.Contents (Elt Ideal) arg3.view.ty) (X_arg4 : BufTy.Contents (Elt Ideal) arg4.view.ty) (f_arg8 : BufTy.Contents (Elt Ideal) arg8.view.ty) (f_arg9 : BufTy.Contents (Elt Ideal) arg9.view.ty) (f_arg10 : BufTy.Contents (Elt Ideal) arg10.view.ty) : sProp 𝕄 :=
  iprop((arg3.view.loc (c : Thread nD τ) ↦[arg3.view.set]{fullShare} X_arg3) ∗ (arg4.view.loc (c : Thread nD τ) ↦[arg4.view.set]{fullShare} X_arg4) ∗ (∃ f, (arg5.view.loc (c : Thread nD τ) ↦[arg5.view.set]{fullShare} f) ∗ ⌜IsC x s (i 1).val (i 2).val (4 * Scf.trips k0_t6_loop.lb k0_t6_loop.ub k0_t6_loop.st) (arg5.view.read (Elt Ideal) f)⌝) ∗ (∃ f, (arg6.view.loc (c : Thread nD τ) ↦[arg6.view.set]{fullShare} f) ∗ ⌜IsK x s (i 1).val (i 2).val (128 * Scf.trips k0_t6_loop.lb k0_t6_loop.ub k0_t6_loop.st) (arg6.view.read (Elt Ideal) f)⌝) ∗ (∃ f, (arg7.view.loc (c : Thread nD τ) ↦[arg7.view.set]{fullShare} f) ∗ ⌜IsE x s (arg7.view.read (Elt Ideal) f)⌝) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (∃ f, (arg11.view.loc (c : Thread nD τ) ↦[arg11.view.set]{fullShare} f)) ∗ (∃ f, (arg12.view.loc (c : Thread nD τ) ↦[arg12.view.set]{fullShare} f)))

set_option maxHeartbeats 4000000 in
/-- A step of the first phase. -/
theorem run0 (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole)
    (X_arg3 : BufTy.Contents (Elt Ideal) arg3.view.ty) (X_arg4 : BufTy.Contents (Elt Ideal) arg4.view.ty) (f_arg5 : BufTy.Contents (Elt Ideal) arg5.view.ty) (f_arg6 : BufTy.Contents (Elt Ideal) arg6.view.ty) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty)
    (hX : IsX x (i 1).val (i 2).val (arg3.view.read (Elt Ideal) X_arg3)) (hS : IsS s (i 1).val (arg4.view.read (Elt Ideal) X_arg4))
    (h3 : k0_cond3 i = 1#1) (h4 : ¬ k0_cond4 i = 1#1)
    (w0 : k0_cond1 i = 1#1 → IsW s ((i 1).val * 512) (arg8.view.read (Elt Ideal) f_arg8))
    (w1 : ¬ k0_cond1 i = 1#1 → IsW s ((i 1).val * 512 + 512) (arg8.view.read (Elt Ideal) f_arg8))
    (hG : IsG x s (lin (i 1).val (i 2).val 0 0) (arg9.view.read (Elt Ideal) f_arg9))
    (a0 : cond2 i = 1#1 → lin (i 1).val (i 2).val 0 0 = 0)
    (a1 : ¬ cond2 i = 1#1 → IsAcc x s (lin (i 1).val (i 2).val 0 0) (arg10.view.read (Elt Ideal) f_arg10)) (K : PUnit → sProp 𝕄) :
    iprop(held c arg3 arg4 arg5 arg6 arg7 arg8 arg9 arg10 arg11 arg12 X_arg3 X_arg4 f_arg5 f_arg6 f_arg7 f_arg8 f_arg9 f_arg10 f_arg11 f_arg12 ∗ (left0 x s c i arg3 arg4 arg5 arg6 arg7 arg8 arg9 arg10 arg11 arg12 X_arg3 X_arg4 -∗ K ⟨⟩))
      ⊢ wp frame (wpE (defs₀ (F := Ideal)) Variants.none c none) Set.univ (cc0_requant i arg3 harg3 arg4 harg4 arg5 harg5 arg6 harg6 arg7 harg7 arg8 harg8 arg9 harg9 arg10 harg10 arg11 harg11 arg12 harg12) K := by
  iintro ⟨⟨HR_arg3, HR_arg4, HW_arg5, HW_arg6, HW_arg7, HW_arg8, HW_arg9, HW_arg10, HW_arg11, HW_arg12⟩, Hk⟩
  sl_unfold [cc0_requant]
  have hA1 : cond2 i = 1#1 → IsA x s (lin (i 1).val (i 2).val 0 0) (k0_pay1 (F := Ideal)
      (arg10.view.readCov (Val := Elt Ideal) [⟨box10, constant (F := Ideal) S8x2x128 .bf16 0x0000#16⟩] box10.toLoadRect)) := fun h2 => by
    rw [a0 h2]
    exact isA_pay1 x s 0 _ (loaded10 x s arg10 0 _ (stored10 x s arg10 0 _ _ [] (isAcc_zero x s)))
  have hA0 : ¬ cond2 i = 1#1 → IsA x s (lin (i 1).val (i 2).val 0 0) (k0_pay1 (F := Ideal) (arg10.view.readAt (Elt Ideal) box10.toLoadRect f_arg10)) :=
    fun h2 => isA_pay1 x s _ _ (loaded10 x s arg10 _ _ (a1 h2))
  have hW1 : k0_cond1 i = 1#1 → IsW s ((i 1).val * 512 + 16 * 0) (arg8.view.read (Elt Ideal) f_arg8) := w0
  have hW0 : ¬ k0_cond1 i = 1#1 → IsW s ((i 1).val * 512 + 16 * Scf.trips k0_t1_loop.lb k0_t1_loop.ub k0_t1_loop.st) (arg8.view.read (Elt Ideal) f_arg8) := fun h1 => by
    have e : 16 * Scf.trips k0_t1_loop.lb k0_t1_loop.ub k0_t1_loop.st = 512 := by decide +kernel
    rw [e]
    exact w1 h1
  clear w0 w1 a0 a1
  by_cases h1 : k0_cond1 i = 1#1 <;> by_cases h2 : cond2 i = 1#1
  all_goals first | have hW := hW1 h1 | have hW := hW0 h1
  all_goals first | have hA := hA1 h2 | have hA := hA0 h2
  all_goals clear hW1 hW0 hA1 hA0
  all_goals unfold cond2 at h2
  all_goals sl_exec
  all_goals sl_step
  all_goals
    iapply Hk
    isplitl [HR_arg3]; · iexact HR_arg3
    isplitl [HR_arg4]; · iexact HR_arg4
    isplitl [HW_arg5]; · iexists _; iexact HW_arg5
    isplitl [HW_arg6]; · iexists _; iexact HW_arg6
    isplitl [HW_arg7]; · iexists _; iexact HW_arg7
    isplitl [HW_arg8]
    · iexists _; isplitl [HW_arg8]; · iexact HW_arg8
      ipureintro
      assumption
    isplitl [HW_arg9]
    · iexists _; isplitl [HW_arg9]; · iexact HW_arg9
      ipureintro
      assumption
    isplitl [HW_arg10]
    · iexists _; isplitl [HW_arg10]; · iexact HW_arg10
      ipureintro
      exact stored10 x s arg10 _ _ _ _ (isAcc_pay4 x s _ _ (by assumption))
    isplitl [HW_arg11]; · iexists _; iexact HW_arg11
    iexists _; iexact HW_arg12

/-- Storing the global scale whole. -/
theorem stored7 (arg7 : Memref sig .tc .vmem S8x128 .f32) (f : arg7.view.ty.Contents (Elt Ideal)) (w : Vec Ideal S8x128 .f32) (h : IsE x s w) :
    IsE x s (arg7.view.read (Elt Ideal) (arg7.view.writes (Elt Ideal) f [⟨Rect.unit (s := S8x128) ![0, 0] S8x128.size inb_S8x128_S8x128_0_0, w⟩])) := by
  intro r l
  have e : arg7.view.read (Elt Ideal) (arg7.view.writes (Elt Ideal) f [⟨Rect.unit (s := S8x128) ![0, 0] S8x128.size inb_S8x128_S8x128_0_0, w⟩]) (ix2 r l) = w (ix2 r l) := by
    refine View.read_writes_cons_unit_of_mem arg7.view f inb_S8x128_S8x128_0_0 w [] (ix2 r l) (ix2 r l) rfl ?_
    exact fun a => by
      rcases a with ⟨_ | _ | n, h⟩
      · show r.val = 0 + r.val
        omega
      · show l.val = 0 + l.val
        omega
      · exact absurd h (by show ¬ n + 2 < 2; omega)
  rw [e]
  exact h r l

set_option maxHeartbeats 4000000 in
/-- A step of the second phase. -/
theorem run1 [inp : Inp] (c : Dev nD) (i : grid0.Coords) (arg3 : Memref sig .tc .vmem S1x1024x1024 .fp8e4m3) (harg3 : arg3.IsWhole) (arg4 : Memref sig .tc .vmem S1x1024x896 .i8) (harg4 : arg4.IsWhole) (arg5 : Memref sig .tc .vmem S1x1024x512 .i8) (harg5 : arg5.IsWhole) (arg6 : Memref sig .tc .vmem S1x1024x64 .fp8e4m3) (harg6 : arg6.IsWhole) (arg7 : Memref sig .tc .vmem S8x128 .f32) (harg7 : arg7.IsWhole) (arg8 : Memref sig .tc .vmem S2x512x896 .i32) (harg8 : arg8.IsWhole) (arg9 : Memref sig .tc .vmem S2x28x64x2x1024 .bf16) (harg9 : arg9.IsWhole) (arg10 : Memref sig .tc .vmem S8x2x128 .bf16) (harg10 : arg10.IsWhole) (arg11 : Memref sig .tc .vmem S8x8x64x2x128 .bf16) (harg11 : arg11.IsWhole) (arg12 : Memref sig .tc .vmem S8x64x2x128 .bf16) (harg12 : arg12.IsWhole)
    (X_arg3 : BufTy.Contents (Elt Ideal) arg3.view.ty) (X_arg4 : BufTy.Contents (Elt Ideal) arg4.view.ty) (f_arg5 : BufTy.Contents (Elt Ideal) arg5.view.ty) (f_arg6 : BufTy.Contents (Elt Ideal) arg6.view.ty) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty)
    (hX : IsX inp.x (i 1).val (i 2).val (arg3.view.read (Elt Ideal) X_arg3))
    (h1 : ¬ k0_cond1 i = 1#1) (h2 : ¬ cond2 i = 1#1) (h3 : ¬ k0_cond3 i = 1#1) (h4 : k0_cond4 i = 1#1)
    (hW : IsW inp.s ((i 1).val * 512 + 512) (arg8.view.read (Elt Ideal) f_arg8))
    (hG : IsG inp.x inp.s 3584 (arg9.view.read (Elt Ideal) f_arg9))
    (hA0 : IsAcc inp.x inp.s 3584 (arg10.view.read (Elt Ideal) f_arg10)) (K : PUnit → sProp 𝕄) :
    iprop(held c arg3 arg4 arg5 arg6 arg7 arg8 arg9 arg10 arg11 arg12 X_arg3 X_arg4 f_arg5 f_arg6 f_arg7 f_arg8 f_arg9 f_arg10 f_arg11 f_arg12 ∗ (left1 inp.x inp.s c i arg3 arg4 arg5 arg6 arg7 arg8 arg9 arg10 arg11 arg12 X_arg3 X_arg4 f_arg8 f_arg9 f_arg10 -∗ K ⟨⟩))
      ⊢ wp frame (wpE (defs₀ (F := Ideal)) Variants.none c none) Set.univ (cc0_requant i arg3 harg3 arg4 harg4 arg5 harg5 arg6 harg6 arg7 harg7 arg8 harg8 arg9 harg9 arg10 harg10 arg11 harg11 arg12 harg12) K := by
  iintro ⟨⟨HR_arg3, HR_arg4, HW_arg5, HW_arg6, HW_arg7, HW_arg8, HW_arg9, HW_arg10, HW_arg11, HW_arg12⟩, Hk⟩
  sl_unfold [cc0_requant]
  have hA : IsAcc inp.x inp.s 3584 (arg10.view.readAt (Elt Ideal) box10.toLoadRect f_arg10) := loaded10 inp.x inp.s arg10 _ _ hA0
  have hK : IsK inp.x inp.s (i 1).val (i 2).val (128 * 0) (arg6.view.read (Elt Ideal) f_arg6) := fun ch g h => absurd h (by omega)
  have hC : IsC inp.x inp.s (i 1).val (i 2).val (4 * 0) (arg5.view.read (Elt Ideal) f_arg5) := fun _ _ h => absurd h (by omega)
  have hN : ∀ (r : Fin 8) (l : Fin 128), Scf.fold (fun (k : Fin k0_t5_loop.trips) acc => k0_pay7 (F := Ideal) (arg10.view.readAt (Elt Ideal) box10.toLoadRect f_arg10) k acc) k0_pay6 (ix2 r l)
      = cnt (zz inp.x inp.s) (Scf.trips k0_t5_loop.lb k0_t5_loop.ub k0_t5_loop.st) := fun r l => count_fold inp.x inp.s _ hA r l
  have e5 : Scf.trips k0_t5_loop.lb k0_t5_loop.ub k0_t5_loop.st = 255 := by decide +kernel
  clear hA0
  unfold cond2 at h2
  sl_exec
  sl_step
  iapply Hk
  isplitl [HR_arg3]; · iexact HR_arg3
  isplitl [HR_arg4]; · iexact HR_arg4
  isplitl [HW_arg5]
  · iexists _; isplitl [HW_arg5]; · iexact HW_arg5
    ipureintro
    exact hL7
  isplitl [HW_arg6]
  · iexists _; isplitl [HW_arg6]; · iexact HW_arg6
    ipureintro
    exact hL4
  isplitl [HW_arg7]
  · iexists _; isplitl [HW_arg7]; · iexact HW_arg7
    ipureintro
    refine stored7 inp.x inp.s arg7 _ _ fun r l => ?_
    exact pay10_eq _ inp.x inp.s _ r l (acc_top inp.x inp.s _ hA r l) ((hN r l).trans (congrArg (cnt (zz inp.x inp.s)) e5))
  isplitl [HW_arg8]; · iexact HW_arg8
  isplitl [HW_arg9]; · iexact HW_arg9
  isplitl [HW_arg10]; · iexact HW_arg10
  isplitl [HW_arg11]; · iexists _; iexact HW_arg11
  iexists _; iexact HW_arg12

end Cert.KernelIdeal.Val

end
-- ==== Proof.Grid.lean ====
/-
  The grid: what the scratch buffers hold before each step, the two phases put together, and the launch.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Pipeline.DatRel
public import Idealize.ShloMosaic.Lib.Pipeline.ArrRel
public import Idealize.ShloMosaic.Lib.Pipeline.ValueKit
public import Idealize.ShloMosaic.Lib.Tactic

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

local notation "𝕄" => MT nD τ sig Unit (Elt Ideal) ℕ (UR sig nD τ) ℕ

/-! ## Which step is which -/

theorem coords_eq : ∀ t : Fin grid0.N, (grid0.coords t 0).val = t.val / 56 ∧ (grid0.coords t 1).val = t.val / 28 % 2 ∧ (grid0.coords t 2).val = t.val % 28 := by
  decide +kernel
theorem cond1_iff : ∀ t : Fin grid0.N, k0_cond1 (grid0.coords t) = 1#1 ↔ t.val < 56 ∧ t.val % 28 = 0 := by decide +kernel
theorem cond2_iff : ∀ t : Fin grid0.N, cond2 (grid0.coords t) = 1#1 ↔ t.val = 0 := by decide +kernel
theorem cond3_iff : ∀ t : Fin grid0.N, k0_cond3 (grid0.coords t) = 1#1 ↔ t.val < 56 := by decide +kernel
theorem cond4_iff : ∀ t : Fin grid0.N, k0_cond4 (grid0.coords t) = 1#1 ↔ 56 ≤ t.val := by decide +kernel

theorem trips1 : Scf.trips k0_t1_loop.lb k0_t1_loop.ub k0_t1_loop.st = 32 := by decide +kernel
theorem trips2 : Scf.trips k0_t2_loop.lb k0_t2_loop.ub k0_t2_loop.st = 8 := by decide +kernel
theorem trips6 : Scf.trips k0_t6_loop.lb k0_t6_loop.ub k0_t6_loop.st = 8 := by decide +kernel

variable (m : (ℓ : Loc nD τ sig) → Buf (Elt Ideal) ℓ) (ρ : Dev nD → PrngReg)

/-- The two arrays on a core, as launched. -/
abbrev xOf (c : Dev nD) : XTy := m ((c : Thread nD τ).loc main_arg0)
abbrev sOf (c : Dev nD) : STy := m ((c : Thread nD τ).loc main_arg1)

section
variable (x : XTy) (s : STy)

/-- The scratch buffers before step `n`. -/
def before (c : Dev nD) (n : ℕ) : sProp 𝕄 :=
  iprop(((∃ f, ((Memref.whole cc0_scratch0).view.loc (c : Thread nD τ) ↦[(Memref.whole cc0_scratch0).view.set]{fullShare} f) ∗ ⌜IsW s (512 * ((min n 56 + 27) / 28)) ((Memref.whole cc0_scratch0).view.read (Elt Ideal) f)⌝)
    ∗ (∃ f, ((Memref.whole cc0_scratch1).view.loc (c : Thread nD τ) ↦[(Memref.whole cc0_scratch1).view.set]{fullShare} f) ∗ ⌜IsG x s (64 * min n 56) ((Memref.whole cc0_scratch1).view.read (Elt Ideal) f)⌝)
    ∗ (∃ f, ((Memref.whole cc0_scratch2).view.loc (c : Thread nD τ) ↦[(Memref.whole cc0_scratch2).view.set]{fullShare} f) ∗ ⌜0 < n → IsAcc x s (64 * min n 56) ((Memref.whole cc0_scratch2).view.read (Elt Ideal) f)⌝)
    ∗ (∃ f, ((Memref.whole cc0_scratch3).view.loc (c : Thread nD τ) ↦[(Memref.whole cc0_scratch3).view.set]{fullShare} f)) ∗ (∃ f, ((Memref.whole cc0_scratch4).view.loc (c : Thread nD τ) ↦[(Memref.whole cc0_scratch4).view.set]{fullShare} f))) ∗ ∃ r, prngReg c r)
end

/-- The result windows are held to a predicate. -/
def marked : Fin 5 → Bool := ![false, false, true, true, true]

/-- What the second phase leaves in the result windows. -/
def Rl (c : Dev nD) : (w : Fin cfg0.W) → Fin cfg0.N → ((cfg0.win w).block.Idx → Elt Ideal (cfg0.win w).elt) → Prop
  | 2 => fun t X => 56 ≤ t.val → IsC (xOf m c) (sOf m c) (t.val / 28 % 2) (t.val % 28) 32 X
  | 3 => fun t X => 56 ≤ t.val → IsK (xOf m c) (sOf m c) (t.val / 28 % 2) (t.val % 28) 1024 X
  | 4 => fun t X => 56 ≤ t.val → IsE (xOf m c) (sOf m c) X
  | _ => fun _ _ => True

/-- The proof data on a core. -/
def dats (_ : Fin 1) (c : Dev nD) : Dat τ (Elt Ideal) Unit ℕ (UR sig nD τ) ℕ cfg0 c where
  A w := V m c (Pipeline.arrRef spec0 w)
  after := fun
    | 0 => fun t => iblk m c 0 t
    | 1 => fun t => iblk m c 1 t
    | 2 => fun t => Pipeline.Dat.unnamed (cfg := cfg0) 2 t
    | 3 => fun t => Pipeline.Dat.unnamed (cfg := cfg0) 3 t
    | 4 => fun t => Pipeline.Dat.unnamed (cfg := cfg0) 4 t
    | ⟨_ + 5, h⟩ => absurd h (Nat.not_lt.2 (Nat.le_add_left _ _))
  Φ t := before (xOf m c) (sOf m c) c t.val
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d

/-- The block of the elements a step is given. -/
theorem block_x (c : Dev nD) (t : Fin cfg0.N) : IsX (xOf m c) (t.val / 28 % 2) (t.val % 28) (iblk m c 0 t) := by
  intro tt cc
  have e := coords_eq t
  have e0 : ∀ t : Fin cfg0.N, win0_0.index t = ![(grid0.coords t 1).val, 0, (grid0.coords t 2).val] := (by decide +kernel : ∀ t : Fin grid0.N, _)
  have hc := cc.isLt
  have hj : t.val % 28 < 28 := Nat.mod_lt _ (by decide)
  have ht := tt.isLt
  rw [← rd3_eq 0 (xOf m c) ⟨t.val / 28 % 2, by omega⟩ tt ⟨1024 * (t.val % 28) + cc.val, by omega⟩]
  blk_simp [iblk]
  refine congrArg (xOf m c) ?_
  blk_ext [e0, e]

/-- The block of the scale bytes a step is given. -/
theorem block_s (c : Dev nD) (t : Fin cfg0.N) : IsS (sOf m c) (t.val / 28 % 2) (iblk m c 1 t) := by
  intro tt cc
  have e := coords_eq t
  have e0 : ∀ t : Fin cfg0.N, win0_1.index t = ![(grid0.coords t 1).val, 0, 0] := (by decide +kernel : ∀ t : Fin grid0.N, _)
  rw [← rd3_eq 0 (sOf m c) ⟨t.val / 28 % 2, by omega⟩ tt cc]
  blk_simp [iblk]
  refine congrArg (sOf m c) ?_
  blk_ext [e0, e]

/-- What the body is called with at a step, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜((dats m 0 c).toRRel marked (Rl m c)).Finds 2 t Y⌝ ∗ owns (c : Thread nD τ) (st0_2 t) fullShare Y)
    ∗ (∃ Y, ⌜((dats m 0 c).toRRel marked (Rl m c)).Finds 3 t Y⌝ ∗ owns (c : Thread nD τ) (st0_3 t) fullShare Y)
    ∗ (∃ Y, ⌜((dats m 0 c).toRRel marked (Rl m c)).Finds 4 t Y⌝ ∗ owns (c : Thread nD τ) (st0_4 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜Rl m c 2 t X⌝ ∗ owns (c : Thread nD τ) (st0_2 t) fullShare X)
    ∗ (∃ X, ⌜Rl m c 3 t X⌝ ∗ owns (c : Thread nD τ) (st0_3 t) fullShare X)
    ∗ (∃ X, ⌜Rl m c 4 t X⌝ ∗ owns (c : Thread nD τ) (st0_4 t) fullShare X))

/-- The body at the step. -/
theorem sound_body (c : Dev nD) (t : Fin cfg0.N) :
    bodyPre m c t ⊢ wp frame (wpE (defs₀ (F := Ideal)) Variants.none c none) Set.univ (bodyAt0 t) (fun _ => bodyPost m c t) := by
  have ec := coords_eq t
  have ht : t.val < 112 := t.isLt
  unfold bodyPre bodyPost bodyAt0
  simp only [before_0, before_1]
  rw [show (dats m 0 c).owesAt () t.succ = (dats m 0 c).owesAt () t.castSucc from rfl,
    show (dats m 0 c).Φ t.castSucc = before (xOf m c) (sOf m c) c t.val from rfl,
    show (dats m 0 c).Φ t.succ = before (xOf m c) (sOf m c) c (t.val + 1) from rfl,
    show (dats m 0 c).after 0 t = iblk m c 0 t from rfl, show (dats m 0 c).after 1 t = iblk m c 1 t from rfl]
  unfold before owns
  iintro ⟨⟨⟨⟨%g0, HS0, %hW⟩, ⟨%g1, HS1, %hG⟩, ⟨%g2, HS2, %hA⟩, ⟨%g3, HS3⟩, ⟨%g4, HS4⟩⟩, Hg⟩, HO, ⟨%d0, %f0, %hf0, H0⟩, ⟨%d1, %f1, %hf1, H1⟩,
    ⟨%d2, -, %f2, -, H2⟩, ⟨%d3, -, %f3, -, H3⟩, ⟨%d4, -, %f4, -, H4⟩⟩
  have hX : IsX (xOf m c) (grid0.coords t 1).val (grid0.coords t 2).val ((st0_0 t).view.read (Elt Ideal) f0) := by
    rw [hf0, ec.2.1, ec.2.2]
    exact block_x m c t
  have hS : IsS (sOf m c) (grid0.coords t 1).val ((st0_1 t).view.read (Elt Ideal) f1) := by
    rw [hf1, ec.2.1]
    exact block_s m c t
  have l0 : ∀ k, lin (grid0.coords t 1).val (grid0.coords t 2).val k 0 = 64 * (t.val / 28 % 2 * 28 + t.val % 28) + 8 * k := by
    intro k
    rw [ec.2.1, ec.2.2]
    unfold lin
    omega
  by_cases hp : t.val < 56
  · have w0 : k0_cond1 (grid0.coords t) = 1#1 → IsW (sOf m c) ((grid0.coords t 1).val * 512) ((Memref.whole cc0_scratch0).view.read (Elt Ideal) g0) := fun h => by
      have h := (cond1_iff t).1 h
      rwa [ec.2.1, show t.val / 28 % 2 * 512 = 512 * ((min t.val 56 + 27) / 28) by omega]
    have w1 : ¬ k0_cond1 (grid0.coords t) = 1#1 → IsW (sOf m c) ((grid0.coords t 1).val * 512 + 512) ((Memref.whole cc0_scratch0).view.read (Elt Ideal) g0) := fun h => by
      have h : ¬ (t.val < 56 ∧ t.val % 28 = 0) := fun k => h ((cond1_iff t).2 k)
      rwa [ec.2.1, show t.val / 28 % 2 * 512 + 512 = 512 * ((min t.val 56 + 27) / 28) by omega]
    have hG0 : IsG (xOf m c) (sOf m c) (lin (grid0.coords t 1).val (grid0.coords t 2).val 0 0) ((Memref.whole cc0_scratch1).view.read (Elt Ideal) g1) := by
      rwa [l0, show 64 * (t.val / 28 % 2 * 28 + t.val % 28) + 8 * 0 = 64 * min t.val 56 by omega]
    have a0 : cond2 (grid0.coords t) = 1#1 → lin (grid0.coords t 1).val (grid0.coords t 2).val 0 0 = 0 := fun h => by
      have h := (cond2_iff t).1 h
      rw [l0]
      omega
    have a1 : ¬ cond2 (grid0.coords t) = 1#1 → IsAcc (xOf m c) (sOf m c) (lin (grid0.coords t 1).val (grid0.coords t 2).val 0 0) ((Memref.whole cc0_scratch2).view.read (Elt Ideal) g2) := fun h => by
      have h : ¬ t.val = 0 := fun k => h ((cond2_iff t).2 k)
      rw [l0, show 64 * (t.val / 28 % 2 * 28 + t.val % 28) + 8 * 0 = 64 * min t.val 56 by omega]
      exact hA (by omega)
    iapply (run0 (xOf m c) (sOf m c) c (grid0.coords t) (st0_0 t) _ (st0_1 t) _ (st0_2 t) _ (st0_3 t) _ (st0_4 t) _ (Memref.whole cc0_scratch0) _
      (Memref.whole cc0_scratch1) _ (Memref.whole cc0_scratch2) _ (Memref.whole cc0_scratch3) _ (Memref.whole cc0_scratch4) _ f0 f1 f2 f3 f4 g0 g1 g2 g3 g4
      hX hS ((cond3_iff t).2 hp) (fun h => absurd ((cond4_iff t).1 h) (by omega)) w0 w1 hG0 a0 a1 _)
    isplitl [H0 H1 H2 H3 H4 HS0 HS1 HS2 HS3 HS4]
    · unfold held
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iexact HS4
    unfold left0
    iintro ⟨H0, H1, ⟨%k2, H2⟩, ⟨%k3, H3⟩, ⟨%k4, H4⟩, ⟨%j0, HS0, %hW'⟩, ⟨%j1, HS1, %hG'⟩, ⟨%j2, HS2, %hA'⟩, HS3, HS4⟩
    rw [ec.2.1, trips1, show t.val / 28 % 2 * 512 + 16 * 32 = 512 * ((min (t.val + 1) 56 + 27) / 28) by omega] at hW'
    rw [l0, trips2, show 64 * (t.val / 28 % 2 * 28 + t.val % 28) + 8 * 8 = 64 * min (t.val + 1) 56 by omega] at hG' hA'
    isplitl [Hg HS0 HS1 HS2 HS3 HS4]
    · isplitl [HS0 HS1 HS2 HS3 HS4]
      · isplitl [HS0]
        · iexists _; isplitl [HS0]; · iexact HS0
          ipureintro; exact hW'
        isplitl [HS1]
        · iexists _; isplitl [HS1]; · iexact HS1
          ipureintro; exact hG'
        isplitl [HS2]
        · iexists _; isplitl [HS2]; · iexact HS2
          ipureintro; exact fun _ => hA'
        isplitl [HS3]; · iexact HS3
        iexact HS4
      iexact Hg
    isplitl [HO]; · iexact HO
    isplitl [H0]
    · iexists f0; isplitr; · ipureintro; exact hf0
      iexact H0
    isplitl [H1]
    · iexists f1; isplitr; · ipureintro; exact hf1
      iexact H1
    isplitl [H2]
    · iexists _; isplitr; swap
      · iexists _; isplitr; swap; · iexact H2
        ipureintro; rfl
      ipureintro
      exact fun h => absurd hp (by omega)
    isplitl [H3]
    · iexists _; isplitr; swap
      · iexists _; isplitr; swap; · iexact H3
        ipureintro; rfl
      ipureintro
      exact fun h => absurd hp (by omega)
    iexists _; isplitr; swap
    · iexists _; isplitr; swap; · iexact H4
      ipureintro; rfl
    ipureintro
    exact fun h => absurd hp (by omega)
  · have hW1 : IsW (sOf m c) ((grid0.coords t 1).val * 512 + 512) ((Memref.whole cc0_scratch0).view.read (Elt Ideal) g0) := fun b r k h =>
      hW b r k (Nat.lt_of_lt_of_le h (by rw [ec.2.1]; omega))
    have hG1 : IsG (xOf m c) (sOf m c) 3584 ((Memref.whole cc0_scratch1).view.read (Elt Ideal) g1) := by
      rwa [show 64 * min t.val 56 = 3584 by omega] at hG
    have hA1 : IsAcc (xOf m c) (sOf m c) 3584 ((Memref.whole cc0_scratch2).view.read (Elt Ideal) g2) := by
      rw [show 64 * min t.val 56 = 3584 by omega] at hA
      exact hA (by omega)
    iapply (run1 (inp := ⟨xOf m c, sOf m c⟩) c (grid0.coords t) (st0_0 t) _ (st0_1 t) _ (st0_2 t) _ (st0_3 t) _ (st0_4 t) _ (Memref.whole cc0_scratch0) _
      (Memref.whole cc0_scratch1) _ (Memref.whole cc0_scratch2) _ (Memref.whole cc0_scratch3) _ (Memref.whole cc0_scratch4) _ f0 f1 f2 f3 f4 g0 g1 g2 g3 g4
      hX (fun h => hp ((cond1_iff t).1 h).1) (fun h => absurd ((cond2_iff t).1 h) (by omega)) (fun h => hp ((cond3_iff t).1 h)) ((cond4_iff t).2 (by omega)) hW1 hG1 hA1 _)
    isplitl [H0 H1 H2 H3 H4 HS0 HS1 HS2 HS3 HS4]
    · unfold held
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iexact HS4
    unfold left1
    iintro ⟨H0, H1, ⟨%k2, H2, %hC⟩, ⟨%k3, H3, %hK⟩, ⟨%k4, H4, %hE⟩, HS0, HS1, HS2, HS3, HS4⟩
    rw [ec.2.1, ec.2.2, trips6] at hC hK
    isplitl [Hg HS0 HS1 HS2 HS3 HS4]
    · isplitl [HS0 HS1 HS2 HS3 HS4]
      · rw [show min (t.val + 1) 56 = min t.val 56 by omega]
        isplitl [HS0]
        · iexists _; isplitl [HS0]; · iexact HS0
          ipureintro; exact hW
        isplitl [HS1]
        · iexists _; isplitl [HS1]; · iexact HS1
          ipureintro; exact hG
        isplitl [HS2]
        · iexists _; isplitl [HS2]; · iexact HS2
          ipureintro; exact fun _ => hA (by omega)
        isplitl [HS3]; · iexact HS3
        iexact HS4
      iexact Hg
    isplitl [HO]; · iexact HO
    isplitl [H0]
    · iexists f0; isplitr; · ipureintro; exact hf0
      iexact H0
    isplitl [H1]
    · iexists f1; isplitr; · ipureintro; exact hf1
      iexact H1
    isplitl [H2]
    · iexists _; isplitr; swap
      · iexists _; isplitr; swap; · iexact H2
        ipureintro; rfl
      ipureintro
      exact fun _ => hC
    isplitl [H3]
    · iexists _; isplitr; swap
      · iexists _; isplitr; swap; · iexact H3
        ipureintro; rfl
      ipureintro
      exact fun _ => hK
    iexists _; isplitr; swap
    · iexists _; isplitr; swap; · iexact H4
      ipureintro; rfl
    ipureintro
    exact fun _ => hE

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation. -/
theorem body_obligation (c : Dev nD) :
    BodyObligationRel (dats m 0 c) (defs₀ (F := Ideal)) Variants.none () Set.univ marked (Rl m c) := fun t => by
  rw [bigSep_W0, bigSep_W0, defs₀_row]
  exact triple_restated (sound_body m c t) rfl .rfl fun _ => .rfl

/-! ## The launch -/

/-- Before the first step nothing is known of the scratch buffers. -/
theorem start (c : Dev nD) : Pipeline.ΦA spec0 c ⊢ (dats m 0 c).Φ 0 := by
  rw [show (dats m 0 c).Φ 0 = before (xOf m c) (sOf m c) c 0 from rfl]
  unfold Pipeline.ΦA before
  rw [scopedRest0_eq]
  iintro ⟨⟨⟨%f0, H0⟩, ⟨%f1, H1⟩, ⟨%f2, H2⟩, ⟨%f3, H3⟩, ⟨%f4, H4⟩⟩, Hg⟩
  simp only [Memref.view_whole, View.set_whole]
  isplitl [H0 H1 H2 H3 H4]
  · isplitl [H0]
    · iexists f0; isplitl [H0]; · iexact H0
      ipureintro; exact fun b r k h => absurd h (by omega)
    isplitl [H1]
    · iexists f1; isplitl [H1]; · iexact H1
      ipureintro; exact fun _ _ _ _ _ h => absurd h (by omega)
    isplitl [H2]
    · iexists f2; isplitl [H2]; · iexact H2
      ipureintro; exact fun h => absurd h (by omega)
    isplitl [H3]; · iexists f3; iexact H3
    iexists f4; iexact H4
  iexact Hg

/-- After the last step what is known of them is forgotten. -/
theorem finish (c : Dev nD) : (dats m 0 c).Φ (Fin.last cfg0.N) ⊢ Pipeline.ΦA spec0 c := by
  rw [show (dats m 0 c).Φ (Fin.last cfg0.N) = before (xOf m c) (sOf m c) c 112 from rfl]
  unfold Pipeline.ΦA before
  rw [scopedRest0_eq]
  simp only [Memref.view_whole, View.set_whole]
  iintro ⟨⟨⟨%f0, H0, -⟩, ⟨%f1, H1, -⟩, ⟨%f2, H2, -⟩, ⟨%f3, H3⟩, ⟨%f4, H4⟩⟩, Hg⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  iexact Hg

set_option backward.isDefEq.respectTransparency.types false in
/-- Every fair execution ends with the arrays as the data say and every semaphore counter at zero. -/
theorem run_main :
    θ_run defs (onTc (τ := τ) (main (F := Ideal))) (s₀ m ρ)
      (fun r => Pipeline.RDat.FramePost (cfgs 0) (fun c => (dats m 0 c).toRRel marked (Rl m c)) (V m) r ∧ r.2.sem = fun _ => 0) :=
  Pipeline.RDat.θ_run_frame_track (Q' := _) cfgs (0 : Fin 1) launch0 defs₀ Variants.none (fun c => (dats m 0 c).toRRel marked (Rl m c)) m ρ main
    (hbody := fun c => (body_obligation m c).toRRel) (hshare := fun c => (dats m 0 c).share_full fun _ => rfl)
    (howed := fun _ _ => rfl) (V := V m) (hmain := hmain m Variants.none) (hA := A_eq m) (hin := start m) (hout := finish m)

/-! ## The results -/

/-- The codes, the scales and the global scale of the arrays given. -/
def codes (x : XTy) (s : STy) : S2x28672x512.Idx → BitVec 8 := fun i => code x s (i 0).val (i 1).val (i 2).val
def scales (x : XTy) (s : STy) : S2x28672x64.Idx → EReal := fun i => cs x s (i 0).val (i 2).val (i 1).val
def glob (x : XTy) (s : STy) : S8x128.Idx → EReal := fun _ => gs x s

end Cert.KernelIdeal.Val

end
-- ==== Proof.Final.lean ====
/-
  What the launch leaves in the three results.
-/
module

public import proofs.«01_k».proof.Proof.Grid

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable (m : (ℓ : Loc nD τ sig) → Buf (Elt Ideal) ℓ) (ρ : Dev nD → PrngReg)

theorem flush2 : ∀ t : Fin cfg0.N, (cfg0.win 2).flush t = true → 56 ≤ t.val := by decide +kernel
theorem flush3 : ∀ t : Fin cfg0.N, (cfg0.win 3).flush t = true → 56 ≤ t.val := by decide +kernel
theorem flush4 : ∀ t : Fin cfg0.N, (cfg0.win 4).flush t = true → 56 ≤ t.val := by decide +kernel

theorem place2 : ∀ t : Fin cfg0.N, 56 ≤ t.val → win0_2.index t = ![t.val / 28 % 2, t.val % 28, 0] := by decide +kernel
theorem place3 : ∀ t : Fin cfg0.N, 56 ≤ t.val → win0_3.index t = ![t.val / 28 % 2, t.val % 28, 0] := by decide +kernel

theorem isC_at {x : XTy} {s : STy} {b j : ℕ} {Y : S1x1024x512.Idx → BitVec 8} (h : IsC x s b j 32 Y) (y : S1x1024x512.Idx) :
    Y y = code x s b (1024 * j + (y 1).val) (y 2).val := by
  obtain ⟨a, r, w, rfl⟩ : ∃ a r w, y = ix3 a r w := ⟨_, _, _, (ix3_eta y).symm⟩
  rw [Subsingleton.elim a 0]
  exact h r w (by have := r.isLt; have := w.isLt; omega)

theorem isK_at {x : XTy} {s : STy} {b j : ℕ} {Y : S1x1024x64.Idx → EReal} (h : IsK x s b j 1024 Y) (y : S1x1024x64.Idx) :
    Y y = cs x s b (y 2).val (1024 * j + (y 1).val) := by
  obtain ⟨a, r, w, rfl⟩ : ∃ a r w, y = ix3 a r w := ⟨_, _, _, (ix3_eta y).symm⟩
  rw [Subsingleton.elim a 0]
  exact h r w r.isLt

theorem isE_at {x : XTy} {s : STy} {Y : S8x128.Idx → EReal} (h : IsE x s Y) (y : S8x128.Idx) : Y y = gs x s := by
  rw [← ix2_eta y]
  exact h _ _

/-- The arguments end as launched and every semaphore counter at zero. -/
theorem quiescent :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans ((A_eq m c 0).trans (V_main_arg0 m c)),
    (h.1.arr_in c 1 rfl).trans ((A_eq m c 1).trans (V_main_arg1 m c))⟩, h.2⟩) (run_main m ρ)

/-- The run's results, for all the arguments. -/
theorem results :
    θ_run defs (onTc (τ := τ) (main (F := Ideal))) ⟨m, fun _ => 0, ρ⟩ (fun r => ∀ c : Dev nD,
      r.2.mem ((c.tc : Thread nD τ).loc main_v0_0) = codes (xOf m c) (sOf m c)
      ∧ r.2.mem ((c.tc : Thread nD τ).loc main_v0_1) = scales (xOf m c) (sOf m c)
      ∧ r.2.mem ((c.tc : Thread nD τ).loc main_v0_2) = glob (xOf m c) (sOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r hr c => ?_) (run_main m ρ)
  have h := hr.1
  obtain ⟨after, hleaves, hmem⟩ := Pipeline.RDat.FramePost.exists_exact h c
  refine ⟨(hmem 2).trans ?_, (hmem 3).trans ?_, (hmem 4).trans ?_, ?_, ?_⟩
  · refine Dat.arrAt_eq_of_covers _ 2 _ (by decide +kernel) (fun t hf y => ?_)
    have hX := (dats m 0 c).toRRel_leaves (w := 2) rfl (hleaves 2 t hf) (flush2 t hf)
    have e := place2 t (flush2 t hf)
    blk_simp
    have h0 : ((win0_2.blk t).view.emb y 0).val = t.val / 28 % 2 := by blk_simp [e]
    have h1 : ((win0_2.blk t).view.emb y 1).val = 1024 * (t.val % 28) + (y 1).val := by blk_simp [e]; exact congrArg (· + _) (Nat.mul_comm _ _)
    have h2 : ((win0_2.blk t).view.emb y 2).val = (y 2).val := by blk_simp [e]
    refine ((isC_at hX y)).trans ?_
    show _ = code (xOf m c) (sOf m c) _ _ _
    rw [h0, h1, h2]
  · refine Dat.arrAt_eq_of_covers _ 3 _ (by decide +kernel) (fun t hf y => ?_)
    have hX := (dats m 0 c).toRRel_leaves (w := 3) rfl (hleaves 3 t hf) (flush3 t hf)
    have e := place3 t (flush3 t hf)
    blk_simp
    have h0 : ((win0_3.blk t).view.emb y 0).val = t.val / 28 % 2 := by blk_simp [e]
    have h1 : ((win0_3.blk t).view.emb y 1).val = 1024 * (t.val % 28) + (y 1).val := by blk_simp [e]; exact congrArg (· + _) (Nat.mul_comm _ _)
    have h2 : ((win0_3.blk t).view.emb y 2).val = (y 2).val := by blk_simp [e]
    refine ((isK_at hX y)).trans ?_
    show _ = cs (xOf m c) (sOf m c) _ _ _
    rw [h0, h1, h2]
  · refine Dat.arrAt_eq_of_covers _ 4 _ (by decide +kernel) (fun t hf y => ?_)
    have hX := (dats m 0 c).toRRel_leaves (w := 4) rfl (hleaves 4 t hf) (flush4 t hf)
    blk_simp
    exact isE_at hX y
  · exact (h.arr_in c 0 rfl).trans ((A_eq m c 0).trans (V_main_arg0 m c))
  · exact (h.arr_in c 1 rfl).trans ((A_eq m c 1).trans (V_main_arg1 m c))

end Cert.KernelIdeal.Val

end
-- ==== Proof.RefGlobal.lean ====
/-
  What the reference computes, element by element: the dequantised elements and the global scale.
-/
module

public import proofs.«01_k».proof.Proof.PayCode
public import proofs.«01_k».proof.Proof.Gen.ReferenceIdeal.Skeleton

@[expose] public section

set_option maxRecDepth 16384

noncomputable section

namespace Cert.ReferenceIdeal.Val

open Idealize.ShloMosaic Cert.ReferenceIdeal.Gen Cert.Spec
open Cert.ReferenceIdeal
open Cert.KernelIdeal.Val (zero32 one32 f40C0 ext1)

section
variable (x : XTy) (s : STy)

theorem shl23 (w : BitVec 32) : IntOp.shli ArithUnit.vector w 23#32 = w <<< 23 := by
  unfold IntOp.shli
  simp

theorem bot32 : (Ideal.ofBits .f32 0xFF800000#32 : EReal) = ⊥ := by
  unfold Ideal.ofBits Ideal.ieee
  simp

theorem pay2_eq (b : Fin 2) (c : Fin 28672) (g : Fin 64) (k : Fin 16) :
    k0_pay2 (F := Ideal) s x (ix4 b c g k) = vn x s b.val (16 * g.val + k.val) c.val := by
  unfold k0_pay2
  pointwise [shl23]
  unfold vn sc pw
  rw [rd3_eq 0 x, rd3_eq 0 s]
  simp only [IntOp.addi, IntOp.subi, BitVec.sub_add_cancel, Nat.mul_comm 16]

theorem pay3_eq (r : Fin 8) (l : Fin 128) : k0_pay3 (F := Ideal) s x (ix2 r l) = zz x s := by
  unfold k0_pay3
  pointwise [pay2_eq x s]
  unfold zz
  refine congrArg (fun t : EReal => t * Ideal.ofBits .f32 0x39C30C31#32) ?_
  refine eq_of_forall_ge_iff fun y => ?_
  rw [top_le, Finset.fold_max_le, bot32]
  constructor
  · rintro ⟨-, h⟩ b hb t ht c hc
    have := h (ix5 0 ⟨b, hb⟩ ⟨c, hc⟩ ⟨t / 16, by omega⟩ ⟨t % 16, by omega⟩) (by
      simp only [Finset.mem_filter, Finset.mem_univ, true_and]
      funext a
      match a with
      | 0 => exact Subsingleton.elim (α := Fin 1) _ _)
    have e : 16 * (t / 16) + t % 16 = t := by omega
    rw [← e]
    exact this
  · refine fun h => ⟨bot_le, fun i _ => h _ (i 1).isLt _ ?_ _ (i 2).isLt⟩
    have h3 : (i 3).val < 64 := (i 3).isLt
    have h4 : (i 4).val < 16 := (i 4).isLt
    omega

theorem fold_add (f : ℕ → BitVec 32) (n : ℕ) : Finset.fold IntOp.addi (0#32) (fun i : Fin (n + 1) => f i.val) Finset.univ
    = Finset.fold IntOp.addi (0#32) (fun i : Fin n => f i.val) Finset.univ + f n := by
  have e : (Finset.univ : Finset (Fin (n + 1))) = insert (Fin.last n) (Finset.univ.image Fin.castSucc) := by
    ext i
    simp only [Finset.mem_univ, Finset.mem_insert, Finset.mem_image, true_and, true_iff]
    exact (Fin.eq_castSucc_or_eq_last i).symm.imp id fun ⟨j, h⟩ => ⟨j, h.symm⟩
  rw [e, Finset.fold_insert (by simp [Fin.castSucc_ne_last]), Finset.fold_image ((Fin.castSucc_injective n).injOn), IntOp.addi, BitVec.add_comm]
  rfl

theorem count_fold (z : EReal) (n : ℕ) : Finset.fold IntOp.addi (0#32) (fun i : Fin n => if pw (BitVec.ofNat 32 (i.val + 1)) ≤ z then 1#32 else 0#32) Finset.univ = cnt z n := by
  induction n with
  | zero => rfl
  | succ n ih =>
    rw [fold_add (fun i => if pw (BitVec.ofNat 32 (i + 1)) ≤ z then 1#32 else 0#32) n, ih]
    rfl

theorem next_exp (i : Fin 255) : IntOp.addi (IntOp.subi (BitVec.ofNat 32 i.val) 126#32) 127#32 = BitVec.ofNat 32 (i.val + 1) := by
  revert i; decide +kernel

theorem count_sub (z : EReal) (n : BitVec 32) (h : cnt z 255 = n) :
    IntOp.subi (Finset.fold IntOp.addi (0#32)
      (fun i : Fin 255 => if Ideal.ofBits .f32 (IntOp.addi (IntOp.subi (BitVec.ofNat 32 i.val) 126#32) 127#32 <<< 23) ≤ z then 1#32 else 0#32) Finset.univ) 126#32
      = n - 126#32 := by
  rw [← h, ← count_fold z 255]
  simp only [next_exp, pw]
  rfl

theorem pay4_gen (z : EReal) (n : BitVec 32) (hn : cnt z 255 = n) (Z : FVec Ideal S8x128 .f32) (h : ∀ r l, Z (ix2 r l) = z) (r : Fin 8) (l : Fin 128)
    (hZ : k0_pay3 (F := Ideal) s x = Z) : k0_pay4 (F := Ideal) s x (ix2 r l) = n - 126#32 := by
  unfold k0_pay4
  rw [hZ]
  pointwise [h, shl23, ext1]
  exact count_sub z n hn

theorem pay4_eq (r : Fin 8) (l : Fin 128) : k0_pay4 (F := Ideal) s x (ix2 r l) = cnt (zz x s) 255 - 126#32 :=
  pay4_gen x s _ _ rfl _ (pay3_eq x s) r l rfl

theorem zero_gen (Z : FVec Ideal S8x128 .f32) (z : EReal) (h : ∀ r l, Z (ix2 r l) = z) (r : Fin 8) (l : Fin 128) :
    cmpf .oeq Z (broadcast S8x128 (Scalar.ofBits (F := Ideal) .f32 0x00000000#32)) (ix2 r l) = BitVec.ofBool (decide (z = 0)) := by
  pointwise [h]

theorem pay5_eq (r : Fin 8) (l : Fin 128) : k0_pay5 (F := Ideal) s x (ix2 r l) = BitVec.ofBool (decide (zz x s = 0)) :=
  zero_gen _ _ (pay3_eq x s) r l

theorem pay6_eq (r : Fin 8) (l : Fin 128) : k0_pay6 (k0_pay4 (F := Ideal) s x) (k0_pay5 (F := Ideal) s x) (ix2 r l) = eg x s := by
  have h4 := pay4_eq x s
  have h5 := pay5_eq x s
  generalize k0_pay4 (F := Ideal) s x = A at h4 ⊢
  generalize k0_pay5 (F := Ideal) s x = B at h5 ⊢
  unfold k0_pay6
  pointwise [h4, h5]
  rfl

end

/-! ## Over any values of the parts before -/

section
variable (x : XTy) (s : STy)
variable (A : IVec S8x128 32) (B : IVec S8x128 1) (h6 : ∀ r l, k0_pay6 A B (ix2 r l) = eg x s)
include h6

theorem pay7_eq (r : Fin 8) (l : Fin 128) : k0_pay7 (F := Ideal) A B (ix2 r l) = gs x s := by
  unfold k0_pay7
  pointwise [h6, shl23]
  unfold gs
  rw [BitVec.add_comm]
  rfl

theorem pay8_eq : k0_pay8 (F := Ideal) A B = dn x s := by
  unfold k0_pay8
  pointwise [h6, shl23]
  unfold dn pw
  congr 2
  simp only [IntOp.addi, IntOp.subi]
  rw [BitVec.zero_sub, BitVec.add_comm, ← BitVec.sub_eq_add_neg]

end

end Cert.ReferenceIdeal.Val

end
-- ==== Proof.RefPay.lean ====
/-
  What the reference computes, element by element: the scales of the groups and the codes.
-/
module

public import proofs.«01_k».proof.Proof.RefGlobal

@[expose] public section

set_option maxRecDepth 16384

noncomputable section

namespace Cert.ReferenceIdeal.Val

open Idealize.ShloMosaic Cert.ReferenceIdeal.Gen Cert.Spec
open Cert.ReferenceIdeal
open Cert.KernelIdeal.Val (zero32 one32 f40C0 ext1 csOf kk_lt)

theorem over_six (z : EReal) : Ideal.div z (Ideal.ofBits .f32 0x40C00000#32) = z * ((1 / 6 : ℝ) : EReal) := by
  rw [f40C0]
  unfold Ideal.div
  have h : ((6 : ℝ) : EReal) ≠ 0 := by
    rw [← EReal.coe_zero, Ne, EReal.coe_eq_coe_iff]
    norm_num
  rw [if_neg h, ← EReal.coe_inv]
  congr 2
  norm_num

theorem group_max (V : FVec Ideal S2x28672x64x16 .f32) (b : Fin 2) (c : Fin 28672) (g : Fin 64) :
    multiReduction .maximumf [3] S2x28672x64 V 0xFF800000#32 reduces_S2x28672x64x16_S2x28672x64 (.inl rfl) rfl (ix3 b c g)
      = ⨆ i : Fin 16, (V (ix4 b c g i) : EReal) := by
  refine eq_of_forall_ge_iff fun y => ?_
  rw [iSup_le_iff]
  refine (Eq.to_iff (congrArg (fun t : EReal => t ≤ y)
    (multiReduction_maximumf_eq_fold (F := Ideal) (φ := .f32) V 0xFF800000#32 reduces_S2x28672x64x16_S2x28672x64 (.inl rfl) rfl (ix3 b c g)))).trans ?_
  show Finset.fold max (Ideal.ofBits .f32 0xFF800000#32) (fun i => (V i : EReal)) _ ≤ y ↔ _
  rw [Finset.fold_max_le, bot32]
  constructor
  · rintro ⟨-, h⟩ k
    refine h _ (Finset.mem_filter.2 ⟨Finset.mem_univ _, ?_⟩)
    funext a
    match a with
    | 0 => exact Fin.ext (Shape.Reduces.drop_apply_val_of_eq reduces_S2x28672x64x16_S2x28672x64 (ix4 b c g k) 0 0)
    | 1 => exact Fin.ext (Shape.Reduces.drop_apply_val_of_eq reduces_S2x28672x64x16_S2x28672x64 (ix4 b c g k) 1 1)
    | 2 => exact Fin.ext (Shape.Reduces.drop_apply_val_of_eq reduces_S2x28672x64x16_S2x28672x64 (ix4 b c g k) 2 2)
  · refine fun h => ⟨bot_le, fun i hi => ?_⟩
    have e := (Finset.mem_filter.1 hi).2
    have e0 : i 0 = b := Fin.ext ((Shape.Reduces.drop_apply_val_of_eq reduces_S2x28672x64x16_S2x28672x64 i 0 0).symm.trans (congrArg Fin.val (congrFun e 0)))
    have e1 : i 1 = c := Fin.ext ((Shape.Reduces.drop_apply_val_of_eq reduces_S2x28672x64x16_S2x28672x64 i 1 1).symm.trans (congrArg Fin.val (congrFun e 1)))
    have e2 : i 2 = g := Fin.ext ((Shape.Reduces.drop_apply_val_of_eq reduces_S2x28672x64x16_S2x28672x64 i 2 2).symm.trans (congrArg Fin.val (congrFun e 2)))
    have ei : i = ix4 b c g (i 3) := by rw [← e0, ← e1, ← e2]; exact (ix4_eta i).symm
    rw [ei]
    exact h (i 3)

/-! ## Over any values of the parts before -/

section
variable (V : FVec Ideal S2x28672x64x16 .f32) (A : IVec S8x128 32) (B : IVec S8x128 1) (d : EReal) (h8 : k0_pay8 (F := Ideal) A B = d)
include h8

/-- The scale of every group, from the group's largest magnitude. -/
def scaleOf (M : FVec Ideal S2x28672x64 .f32) (d : Ideal .f32) : FVec Ideal S2x28672x64 .fp8e4m3 :=
  truncf .fp8e4m3 (minimumf (broadcast S2x28672x64 (Scalar.ofBits .f32 0x43E00000#32)) (maximumf (broadcast S2x28672x64 (Scalar.ofBits .f32 0x00000000#32))
    (divf (mulf (mulf M (broadcast S2x28672x64 d)) (broadcast S2x28672x64 (Scalar.ofBits .f32 0x3F800800#32))) (broadcast S2x28672x64 (Scalar.ofBits .f32 0x40C00000#32))))) bitsLt_fp8e4m3_f32

omit h8 in
theorem scaleOf_eq (M : FVec Ideal S2x28672x64 .f32) (v : EReal) (b : Fin 2) (c : Fin 28672) (g : Fin 64) (hv : M (ix3 b c g) = v) :
    scaleOf M d (ix3 b c g) = csOf v d := by
  unfold scaleOf
  pointwise [hv, over_six]
  rfl

theorem pay9_gen (b : Fin 2) (c : Fin 28672) (g : Fin 64) (v : EReal)
    (hv : multiReduction (F := Ideal) .maximumf [3] S2x28672x64 (absf V) 0xFF800000#32 reduces_S2x28672x64x16_S2x28672x64 (.inl rfl) rfl (ix3 b c g) = v) :
    k0_pay9 (F := Ideal) V A B (ix3 b c g) = csOf v d := by
  rw [← h8]
  exact scaleOf_eq _ _ v b c g hv

theorem pay10_gen (b : Fin 2) (c : Fin 28672) (g : Fin 64) (k : Fin 16) (v : EReal) (hv : V (ix4 b c g k) = v) :
    k0_pay10 (F := Ideal) V A B (ix4 b c g k) = v * d := by
  unfold k0_pay10
  rw [h8]
  pointwise [hv]

omit h8 in
theorem pay11_gen (b : Fin 2) (c : Fin 28672) (g : Fin 64) (k : Fin 16) (v : EReal) (hv : k0_pay9 (F := Ideal) V A B (ix3 b c g) = v) :
    k0_pay11 (F := Ideal) V A B (ix4 b c g k) = if v = 0 then 1 else v := by
  unfold k0_pay11
  generalize k0_pay9 (F := Ideal) V A B = W at hv ⊢
  pointwise [hv]

end

/-! ## The values -/

section
variable (x : XTy) (s : STy)

/-- The reference's values over the arrays. -/
abbrev els : FVec Ideal S2x28672x64x16 .f32 := k0_pay2 (F := Ideal) s x
abbrev exps : IVec S8x128 32 := k0_pay4 (F := Ideal) s x
abbrev flags : IVec S8x128 1 := k0_pay5 (F := Ideal) s x

theorem dn_eq : k0_pay8 (F := Ideal) (exps x s) (flags x s) = dn x s := pay8_eq x s _ _ (pay6_eq x s)

theorem cs_eq (b : Fin 2) (c : Fin 28672) (g : Fin 64) : k0_pay9 (F := Ideal) (els x s) (exps x s) (flags x s) (ix3 b c g) = cs x s b.val g.val c.val := by
  refine pay9_gen _ _ _ _ (dn_eq x s) b c g _ ((group_max _ b c g).trans ?_)
  unfold am
  exact iSup_congr fun i => congrArg av (pay2_eq x s b c g i)

theorem vd_eq (b : Fin 2) (c : Fin 28672) (g : Fin 64) (k : Fin 16) :
    k0_pay10 (F := Ideal) (els x s) (exps x s) (flags x s) (ix4 b c g k) = vn x s b.val (16 * g.val + k.val) c.val * dn x s :=
  pay10_gen _ _ _ _ (dn_eq x s) b c g k _ (pay2_eq x s b c g k)

theorem sf_eq (b : Fin 2) (c : Fin 28672) (g : Fin 64) (k : Fin 16) :
    k0_pay11 (F := Ideal) (els x s) (exps x s) (flags x s) (ix4 b c g k) = sf x s b.val g.val c.val :=
  pay11_gen _ _ _ b c g k _ (cs_eq x s b c g)

end

/-- The count of the bounds passed and the sign, as the reference puts them together. -/
theorem nib_of (y : EReal) (k : BitVec 32) (hk : kk (min (av y) (Ideal.ofBits .f32 0x40C00000#32)) = k) :
    IntOp.addi k (IntOp.muli 8#32 (BitVec.setWidth 32 (IntOp.andi (BitVec.ofBool (decide (y < 0))) (IntOp.cmpi .sgt k 0#32)))) = nib y := by
  unfold nib
  rw [hk]
  obtain ⟨j, hj⟩ := kk_lt (min (av y) (Ideal.ofBits .f32 0x40C00000#32))
  rw [hk] at hj
  subst hj
  clear hk
  by_cases h : y < 0
  · simp only [h, decide_true, true_and]
    revert j
    decide
  · simp only [h, decide_false, false_and, if_false]
    revert j
    decide

theorem shl4 (w : BitVec 32) : IntOp.shli ArithUnit.vector w 4#32 = w <<< 4 := by
  unfold IntOp.shli
  simp

theorem pay12_eq (P Q : FVec Ideal S2x28672x64x16 .f32) (y : ℕ → EReal) (b : Fin 2) (c : Fin 28672)
    (hy : ∀ g k, Ideal.div (P (ix4 b c g k)) (Q (ix4 b c g k)) = y (16 * g.val + k.val)) (w : Fin 512) :
    k0_pay12 (F := Ideal) P Q (ix3 b c w) = nib (y (2 * w.val)) ||| (nib (y (2 * w.val + 1)) <<< 4) := by
  have e0 : 16 * (w.val / 8) + w.val % 8 * 2 = 2 * w.val := by omega
  have e1 : 16 * (w.val / 8) + (w.val % 8 * 2 + 1) = 2 * w.val + 1 := by omega
  unfold k0_pay12
  pointwise [ext1, hy, shl4]
  simp only [e0, e1]
  exact congrArg₂ (fun a b : BitVec 32 => a ||| b <<< 4) (nib_of _ _ rfl) (nib_of _ _ rfl)

theorem over_scale (v : EReal) (m d : EReal) : Ideal.div v (if csOf m d = 0 then 1 else csOf m d) = v * (if csOf m d = 0 then 1 else csOf m d)⁻¹ := by
  unfold Ideal.div
  refine if_neg ?_
  split_ifs with h
  · exact one_ne_zero
  · exact h

section
variable (x : XTy) (s : STy)

theorem code_eq (b : Fin 2) (c : Fin 28672) (w : Fin 512) :
    k0_pay1 (k0_pay12 (F := Ideal) (k0_pay10 (F := Ideal) (els x s) (exps x s) (flags x s)) (k0_pay11 (F := Ideal) (els x s) (exps x s) (flags x s))) (ix3 b c w)
      = code x s b.val c.val w.val := by
  have h := pay12_eq (k0_pay10 (F := Ideal) (els x s) (exps x s) (flags x s)) (k0_pay11 (F := Ideal) (els x s) (exps x s) (flags x s))
    (fun t => yn x s b.val t c.val) b c (fun g k => ?_) w
  · generalize k0_pay12 (F := Ideal) _ _ = W at h ⊢
    unfold code
    rw [← h]
    unfold k0_pay1
    pointwise
  · rw [vd_eq x s b c g k, sf_eq x s b c g k]
    unfold yn
    rw [show (16 * g.val + k.val) / 16 = g.val by omega]
    exact over_scale _ _ _

end

end Cert.ReferenceIdeal.Val

end
-- ==== Proof.RefRun.lean ====
/-
  What the reference leaves in the three results.
-/
module

public import proofs.«01_k».proof.Proof.RefPay
public import proofs.«01_k».proof.Proof.Gen.ReferenceIdeal.Frame
public import Idealize.ShloMosaic.Lib.Pipeline.ValueKit
public import Idealize.ShloMosaic.Lib.Tactic

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.Tactic
open Idealize.SL.Sem
open Idealize.ShloMosaic.Pipeline (Dat Cfg Window)

/-- The codes, the scales and the global scale of the arrays given. -/
def codes (x : XTy) (s : STy) : S2x28672x512.Idx → BitVec 8 := fun i => code x s (i 0).val (i 1).val (i 2).val
def scales (x : XTy) (s : STy) : S2x28672x64.Idx → EReal := fun i => cs x s (i 0).val (i 2).val (i 1).val
def glob (x : XTy) (s : STy) : S8x128.Idx → EReal := fun _ => gs x s

theorem zero3 : (![0, 0, 0] : Fin 3 → ℕ) = fun _ => 0 := by decide
theorem zero2 : (![0, 0] : Fin 2 → ℕ) = fun _ => 0 := by decide

theorem ld_s (s : STy) : View.ld (Val := Elt Ideal) (e' := .i8) s r0_0 = s := View.ld_unit_zero zero3 _ _
theorem ld_x (x : XTy) : View.ld (Val := Elt Ideal) (e' := .fp8e4m3) x r0_1 = x := View.ld_unit_zero zero3 _ _

theorem out2_eq (x : XTy) (s : STy) : out0_2 (F := Ideal) x s = codes x s := by
  unfold out0_2 k0_pay13 k0_pay14 k0_pay15
  rw [View.canon_unit_zero zero3, ld_s, ld_x]
  funext i
  obtain ⟨b, c, w, rfl⟩ : ∃ b c w, i = ix3 b c w := ⟨_, _, _, (ix3_eta i).symm⟩
  exact code_eq x s b c w

theorem out3_eq (x : XTy) (s : STy) : out0_3 (F := Ideal) x s = scales x s := by
  unfold out0_3 k0_pay13 k0_pay14 k0_pay15
  rw [View.canon_unit_zero zero3, ld_s, ld_x]
  funext i
  obtain ⟨b, c, g, rfl⟩ : ∃ b c g, i = ix3 b c g := ⟨_, _, _, (ix3_eta i).symm⟩
  exact cs_eq x s b c g

theorem out4_eq (x : XTy) (s : STy) : out0_4 (F := Ideal) x s = glob x s := by
  unfold out0_4 k0_pay14 k0_pay15
  rw [View.canon_unit_zero zero2, ld_s, ld_x]
  funext i
  obtain ⟨r, l, rfl⟩ : ∃ r l, i = ix2 r l := ⟨_, _, (ix2_eta i).symm⟩
  exact pay7_eq x s _ _ (pay6_eq x s) r l

variable (m : (ℓ : Loc nD τ sig) → Buf (Elt Ideal) ℓ) (ρ : Dev nD → PrngReg)

abbrev xOf (c : Dev nD) : XTy := m ((c : Thread nD τ).loc main_arg0)
abbrev sOf (c : Dev nD) : STy := m ((c : Thread nD τ).loc main_arg1)

theorem at0 (t : Fin cfg0.N) (a) : win0_0.index t a = 0 := rfl
theorem at1 (t : Fin cfg0.N) (a) : win0_1.index t a = 0 := rfl
theorem at2 (t : Fin cfg0.N) (a) : win0_2.index t a = 0 := rfl
theorem at3 (t : Fin cfg0.N) (a) : win0_3.index t a = 0 := rfl
theorem at4 (t : Fin cfg0.N) (a) : win0_4.index t a = 0 := rfl

theorem block_x (c : Dev nD) (t : Fin cfg0.N) : iblk m c 0 t = xOf m c := by
  funext i
  blk_simp [iblk]
  refine congrArg (xOf m c) ?_
  blk_ext [at0]

theorem block_s (c : Dev nD) (t : Fin cfg0.N) : iblk m c 1 t = sOf m c := by
  funext i
  blk_simp [iblk]
  refine congrArg (sOf m c) ?_
  blk_ext [at1]

theorem results :
    θ_run defs (onTc (τ := τ) (main (F := Ideal))) ⟨m, fun _ => 0, ρ⟩ (fun r => ∀ c : Dev nD,
      r.2.mem ((c.tc : Thread nD τ).loc main_v0_0) = codes (xOf m c) (sOf m c)
      ∧ r.2.mem ((c.tc : Thread nD τ).loc main_v0_1) = scales (xOf m c) (sOf m c)
      ∧ r.2.mem ((c.tc : Thread nD τ).loc main_v0_2) = glob (xOf m c) (sOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  refine ⟨((h c).1 2).trans ?_, ((h c).1 3).trans ?_, ((h c).1 4).trans ?_, ?_, ?_⟩
  · refine Dat.arrAt_eq_of_covers _ 2 _ (by decide +kernel) (fun t hf y => ?_)
    blk_simp
    rw [after0_2, block_x, block_s, out2_eq]
    refine congrArg (codes (xOf m c) (sOf m c)) ?_
    blk_ext [at2]
  · refine Dat.arrAt_eq_of_covers _ 3 _ (by decide +kernel) (fun t hf y => ?_)
    blk_simp
    rw [after0_3, block_x, block_s, out3_eq]
    refine congrArg (scales (xOf m c) (sOf m c)) ?_
    blk_ext [at3]
  · refine Dat.arrAt_eq_of_covers _ 4 _ (by decide +kernel) (fun t hf y => ?_)
    blk_simp
    rw [after0_4, block_x, block_s, out4_eq]
    refine congrArg (glob (xOf m c) (sOf m c)) ?_
    blk_ext [at4]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.ReferenceIdeal.Val

end
-- ==== Proof.lean ====
/-
  The proof of `Cert.Claim`.
-/
module

public import proofs.«01_k».proof.Defs
public import proofs.«01_k».proof.Proof.KernelFrame
public import proofs.«01_k».proof.Proof.Final
public import proofs.«01_k».proof.Proof.RefRun

public import Idealize.ShloMosaic.Lib.Bf16Pair
public import Idealize.ShloMosaic.Lib.Bf16PairInverse

@[expose] public section

noncomputable section

namespace Cert.Proof

open Idealize.ShloMosaic

/-- Each rewrite of the ideal pass is an instance of its rule. -/
theorem preserves : Cert.preserves_Kernel_KernelIdeal :=
  ⟨IdealRules.bf16_pair.bufferStatement _ _, IdealRules.bf16_pair.bufferStatement _ _,
    IdealRules.bf16_pair.bufferStatement _ _, IdealRules.bf16_pair.bufferStatement _ _,
    IdealRules.bf16_pair.statement _ _, IdealRules.bf16_pair.selectZeroStatement _,
    IdealRules.bf16_pair.statement _ _, IdealRules.bf16_pair.statement _ _, IdealRules.bf16_pair.statement _ _,
    IdealRules.bf16_pair.statement _ _, IdealRules.named_const.statement _ _ _ _ _ rfl, IdealRules.truncf_extf.statement _ .f32 .fp8e4m3,
    IdealRules.bf16_pair.packStatement _, IdealRules.bf16_pair.statement _ _, IdealRules.bf16_pair.statement _ _,
    IdealRules.bf16_pair.statement _ _⟩

/-- The kernel and the reference end with the same codes, scales and global scale: both with those of `Proof/Spec.lean`. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Val.codes (Cert.KernelIdeal.Val.xOf m c) (Cert.KernelIdeal.Val.sOf m c),
    fun c => Cert.KernelIdeal.Val.scales (Cert.KernelIdeal.Val.xOf m c) (Cert.KernelIdeal.Val.sOf m c),
    fun c => Cert.KernelIdeal.Val.glob (Cert.KernelIdeal.Val.xOf m c) (Cert.KernelIdeal.Val.sOf m c), Cert.KernelIdeal.Val.results m g, ?_⟩
  refine (θ_run Cert.ReferenceIdeal.defs _ _).mono (fun r hr c => ?_) (Cert.ReferenceIdeal.Val.results m' g')
  have hx : Cert.ReferenceIdeal.Val.xOf m' c = Cert.KernelIdeal.Val.xOf m c := (h c).1
  have hs : Cert.ReferenceIdeal.Val.sOf m' c = Cert.KernelIdeal.Val.sOf m c := (h c).2
  have hc := hr c
  rw [hx, hs] at hc
  exact hc

/-- Everything claimed. -/
theorem claim : Cert.Claim :=
  ⟨Cert.Kernel.Gen.facts, Cert.KernelIdeal.Gen.facts, Cert.ReferenceIdeal.Gen.facts,
    fun m g _ => Cert.Kernel.Hand.quiescent m g,
    fun m g _ => Cert.KernelIdeal.Val.quiescent m g,
    fun m g _ => Cert.ReferenceIdeal.Gen.frame m g,
    preserves,
    algebraic⟩

end Cert.Proof

end
